-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_x_is_bf16 [hPre_x_is_bf16 : Cert.Pre_x_is_bf16.Facts] (m : (ℓ : Loc Cert.KernelIdeal.nD Cert.KernelIdeal.τ Cert.KernelIdeal.sig) → Buf (Elt Ideal) ℓ) : Prop :=
  ∀ c : Dev Cert.KernelIdeal.nD,
    (Cert.Pre_x_is_bf16.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_x_is_bf16 [hPre_x_is_bf16 : Cert.Pre_x_is_bf16.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_x_is_bf16.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_x_is_bf16 [hKernelIdeal : Cert.KernelIdeal.Facts] [hPre_x_is_bf16 : Cert.Pre_x_is_bf16.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_x_is_bf16 m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_x_is_bf16 [hReferenceIdeal : Cert.ReferenceIdeal.Facts] [hPre_x_is_bf16 : Cert.Pre_x_is_bf16.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_x_is_bf16 m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_x_is_bf16 [hKernelIdeal : Cert.KernelIdeal.Facts] [hReferenceIdeal : Cert.ReferenceIdeal.Facts] [hPre_x_is_bf16 : Cert.Pre_x_is_bf16.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_x_is_bf16 m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_x_is_bf16 : Cert.Pre_x_is_bf16.Facts),
    quiescent_Kernel (hKernel := hKernel)
    ∧ quiescent_KernelIdeal (hKernelIdeal := hKernelIdeal)
    ∧ quiescent_KernelIdeal_pre_x_is_bf16 (hKernelIdeal := hKernelIdeal) (hPre_x_is_bf16 := hPre_x_is_bf16)
    ∧ quiescent_ReferenceIdeal (hReferenceIdeal := hReferenceIdeal)
    ∧ quiescent_ReferenceIdeal_pre_x_is_bf16 (hReferenceIdeal := hReferenceIdeal) (hPre_x_is_bf16 := hPre_x_is_bf16)
    ∧ preserves_Kernel_KernelIdeal
    ∧ algebraic_KernelIdeal_ReferenceIdeal_pre_x_is_bf16 (hKernelIdeal := hKernelIdeal) (hReferenceIdeal := hReferenceIdeal) (hPre_x_is_bf16 := hPre_x_is_bf16)
-- ==== Pre_x_is_bf16.lean ====
abbrev S1x256x4096 : Shape := ⟨3, ![1, 256, 4096]⟩
abbrev S28672x2048 : Shape := ⟨2, ![28672, 2048]⟩
abbrev S28672x256 : Shape := ⟨2, ![28672, 256]⟩
abbrev S_ : Shape := ⟨0, ![]⟩

class Facts : Prop where
  bcast_S_S1x256x4096 : S_.BroadcastsInDim S1x256x4096 (![] : Fin 0 → Fin S1x256x4096.rank)
  reducesTo_S1x256x4096_S_d0_1_2 : S1x256x4096.ReducesTo [0, 1, 2] S_
  h_S_ : 0 < S_.numel

variable [Facts]

def fn {F : FTy → Type} [FloatOps F] (main_arg0 : FVec F S1x256x4096 .bf16) (main_arg1 : IVec S28672x2048 8) (main_arg2 : FVec F S28672x256 .fp8e4m3) (main_arg3 : FVec F S_ .f32) : IVec S_ 1 :=
  let main_v0 : FVec F S1x256x4096 .bf16 := Host.absf main_arg0
  let main_cst : FVec F S_ .bf16 := constant S_ .bf16 0x7F7F#16
  let main_v1 : FVec F S1x256x4096 .bf16 := broadcastInDim S1x256x4096 ![] bcast_S_S1x256x4096 main_cst
  let main_v2 : IVec S1x256x4096 1 := cmpf .ole main_v0 main_v1
  let main_cst_0 : FVec F S_ .bf16 := constant S_ .bf16 0x7F80#16
  let main_v3 : FVec F S1x256x4096 .bf16 := broadcastInDim S1x256x4096 ![] bcast_S_S1x256x4096 main_cst_0
  let main_v4 : IVec S1x256x4096 1 := cmpf .oeq main_v0 main_v3
  let main_v5 : IVec S1x256x4096 1 := ori main_v2 main_v4
  let main_c : IVec S_ 1 := constantI S_ 1 1#1
  let main_v6 : IVec S_ 1 := (fun x v => Host.reduce IntOp.andi x v reducesTo_S1x256x4096_S_d0_1_2 h_S_) main_v5 main_c
  main_v6
-- ==== Kernel.lean ====
abbrev S1x256x4096 : Shape := ⟨3, ![1, 256, 4096]⟩
abbrev S28672x2048 : Shape := ⟨2, ![28672, 2048]⟩
abbrev S28672x256 : Shape := ⟨2, ![28672, 256]⟩
abbrev S_ : Shape := ⟨0, ![]⟩
abbrev S1 : Shape := ⟨1, ![1]⟩
abbrev S256x4096 : Shape := ⟨2, ![256, 4096]⟩
abbrev S256x28672 : Shape := ⟨2, ![256, 28672]⟩
abbrev S256x128 : Shape := ⟨2, ![256, 128]⟩
abbrev S1024x2048 : Shape := ⟨2, ![1024, 2048]⟩
abbrev S1024x256 : Shape := ⟨2, ![1024, 256]⟩
abbrev S256x1024 : Shape := ⟨2, ![256, 1024]⟩
abbrev S256x2048 : Shape := ⟨2, ![256, 2048]⟩
abbrev S256x128x1 : Shape := ⟨3, ![256, 128, 1]⟩
abbrev S64x128 : Shape := ⟨2, ![64, 128]⟩
abbrev S256x256 : Shape := ⟨2, ![256, 256]⟩

abbrev nBuf : Space → Nat
  | .hbm => 9
  | .vmem => 11
  | .smem => 1
  | _ => 0

abbrev bufTy : (tb : Table) → Fin (tcTables nBuf tb) → BufTy
  | .hbm, ⟨0, _⟩ => ⟨S1x256x4096, .bf16⟩
  | .hbm, ⟨1, _⟩ => ⟨S28672x2048, .i8⟩
  | .hbm, ⟨2, _⟩ => ⟨S28672x256, .fp8e4m3⟩
  | .hbm, ⟨3, _⟩ => ⟨S_, .f32⟩
  | .hbm, ⟨4, _⟩ => ⟨S1, .f32⟩
  | .hbm, ⟨5, _⟩ => ⟨S256x4096, .bf16⟩
  | .hbm, ⟨6, _⟩ => ⟨S256x28672, .bf16⟩
  | .hbm, ⟨7, _⟩ => ⟨S256x4096, .fp8e4m3⟩
  | .hbm, ⟨8, _⟩ => ⟨S256x128, .f32⟩
  | .local _ .vmem, ⟨0, _⟩ => ⟨S256x4096, .bf16⟩
  | .local _ .vmem, ⟨1, _⟩ => ⟨S1024x2048, .i8⟩
  | .local _ .vmem, ⟨2, _⟩ => ⟨S1024x2048, .i8⟩
  | .local _ .vmem, ⟨3, _⟩ => ⟨S1024x256, .fp8e4m3⟩
  | .local _ .vmem, ⟨4, _⟩ => ⟨S1024x256, .fp8e4m3⟩
  | .local _ .vmem, ⟨5, _⟩ => ⟨S256x1024, .bf16⟩
  | .local _ .vmem, ⟨6, _⟩ => ⟨S256x1024, .bf16⟩
  | .local _ .vmem, ⟨7, _⟩ => ⟨S256x4096, .fp8e4m3⟩
  | .local _ .vmem, ⟨8, _⟩ => ⟨S256x128, .f32⟩
  | .local _ .vmem, ⟨9, _⟩ => ⟨S256x2048, .bf16⟩
  | .local _ .vmem, ⟨10, _⟩ => ⟨S256x2048, .bf16⟩
  | .local _ .smem, ⟨0, _⟩ => ⟨S1, .f32⟩
  | _, _ => ⟨S1x256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![28], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x4096 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S1x256x4096 : Shape := ⟨3, ![1, 256, 4096]⟩
abbrev S28672x2048 : Shape := ⟨2, ![28672, 2048]⟩
abbrev S28672x256 : Shape := ⟨2, ![28672, 256]⟩
abbrev S_ : Shape := ⟨0, ![]⟩
abbrev S1 : Shape := ⟨1, ![1]⟩
abbrev S256x4096 : Shape := ⟨2, ![256, 4096]⟩
abbrev S256x28672 : Shape := ⟨2, ![256, 28672]⟩
abbrev S256x128 : Shape := ⟨2, ![256, 128]⟩
abbrev S256x128x32 : Shape := ⟨3, ![256, 128, 32]⟩
abbrev S256x128x1 : Shape := ⟨3, ![256, 128, 1]⟩
abbrev S256x2048x2 : Shape := ⟨3, ![256, 2048, 2]⟩
abbrev S256x2048x1 : Shape := ⟨3, ![256, 2048, 1]⟩
abbrev S256x2048 : Shape := ⟨2, ![256, 2048]⟩
abbrev S28672x256x1 : Shape := ⟨3, ![28672, 256, 1]⟩
abbrev S28672x256x8 : Shape := ⟨3, ![28672, 256, 8]⟩

abbrev nBuf : Space → Nat
  | .hbm => 9
  | .vmem => 6
  | .smem => 1
  | _ => 0

abbrev bufTy : (tb : Table) → Fin (tcTables nBuf tb) → BufTy
  | .hbm, ⟨0, _⟩ => ⟨S1x256x4096, .bf16⟩
  | .hbm, ⟨1, _⟩ => ⟨S28672x2048, .i8⟩
  | .hbm, ⟨2, _⟩ => ⟨S28672x256, .fp8e4m3⟩
  | .hbm, ⟨3, _⟩ => ⟨S_, .f32⟩
  | .hbm, ⟨4, _⟩ => ⟨S1, .f32⟩
  | .hbm, ⟨5, _⟩ => ⟨S256x4096, .bf16⟩
  | .hbm, ⟨6, _⟩ => ⟨S256x28672, .bf16⟩
  | .hbm, ⟨7, _⟩ => ⟨S256x4096, .fp8e4m3⟩
  | .hbm, ⟨8, _⟩ => ⟨S256x128, .f32⟩
  | .local _ .vmem, ⟨0, _⟩ => ⟨S256x4096, .bf16⟩
  | .local _ .vmem, ⟨1, _⟩ => ⟨S28672x2048, .i8⟩
  | .local _ .vmem, ⟨2, _⟩ => ⟨S28672x256, .fp8e4m3⟩
  | .local _ .vmem, ⟨3, _⟩ => ⟨S256x28672, .bf16⟩
  | .local _ .vmem, ⟨4, _⟩ => ⟨S256x4096, .fp8e4m3⟩
  | .local _ .vmem, ⟨5, _⟩ => ⟨S256x128, .f32⟩
  | .local _ .smem, ⟨0, _⟩ => ⟨S1, .f32⟩
  | _, _ => ⟨S1x256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S28672x2048 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S28672x256 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x28672 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x4096 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.LowRuns.lean ====
module

public import proofs.«01_k».proof.Proof.Gen.Kernel.Frame
public import proofs.«01_k».proof.Proof.Gen.Kernel.Skeleton
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! What the two runs of the kernel's body are stated over: the body's branch condition in closed form over the
points, where its windows are idle, the staging and scratch memrefs. -/

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 28 = 0 :=
  (fun t => by
    have ht : t.val < 28 := Nat.lt_of_lt_of_eq t.isLt N_0
    have e0 : (grid0.coords t 0).val = t.val / 1 % 28 := Pipeline.Grid.coords_val t 0 (by decide) rfl
    simp only [cond0_0, k0_cond1, e0]
    word_cmp
   : ∀ t : Fin grid0.N, cond0_0 (grid0.coords t) ↔ t.val % 28 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an output stored at every point, under no condition). -/
theorem liveAt0_4 : ∀ t : Fin cfg0.N, cfg0.idle 4 (grid0.coords t) = false := fun _ => rfl
/-- At the first point outputs 5 and 6 are stored into. -/
theorem liveAt0_5_A : ∀ t : Fin cfg0.N, cond0_0 (grid0.coords t) → cfg0.idle 5 (grid0.coords t) = false := by decide +kernel
theorem liveAt0_6_A : ∀ t : Fin cfg0.N, cond0_0 (grid0.coords t) → cfg0.idle 6 (grid0.coords t) = false := by decide +kernel

/-! ## The kernel body on any staging memrefs: a subtype the run finds -/

/-- One staging buffer of output window 4, through which its contents are stated (`View.read_writes_of_cover`: the
    choice does not matter). -/
abbrev VO0_4 : View sig .tc .vmem S256x1024 .bf16 := (Memref.whole cc0_stg4_0 : Memref sig .tc .vmem S256x1024 .bf16).view
/-- One staging buffer of output window 5, through which its contents are stated (`View.read_writes_of_cover`: the
    choice does not matter). -/
abbrev VO0_5 : View sig .tc .vmem S256x4096 .fp8e4m3 := (Memref.whole cc0_stg5_0 : Memref sig .tc .vmem S256x4096 .fp8e4m3).view
/-- One staging buffer of output window 6, through which its contents are stated (`View.read_writes_of_cover`: the
    choice does not matter). -/
abbrev VO0_6 : View sig .tc .vmem S256x128 .f32 := (Memref.whole cc0_stg6_0 : Memref sig .tc .vmem S256x128 .f32).view
/-- Each window's current staging memref at point `t`, spelled as the pipeline passes it (`bodyAt0`), and its wholeness. -/
abbrev ms0_0 (t : Fin cfg0.N) : Memref sig .tc .smem S1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x4096 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x2048 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x256 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x4096 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x128 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S256x2048 .bf16 := Memref.whole cc0_scratch0
abbrev scM0_1 : Memref sig .tc .vmem S256x2048 .bf16 := Memref.whole cc0_scratch1
/-- The scratch `arg8` the kernel carries between points, as a view: what it holds is stated through it. -/
abbrev VS0_0 : View sig .tc .vmem S256x2048 .bf16 := scM0_0.view
/-- The scratch `arg9` the kernel carries between points, as a view: what it holds is stated through it. -/
abbrev VS0_1 : View sig .tc .vmem S256x2048 .bf16 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Gen

end
-- ==== Proof.LowRunA.lean ====
module

public import proofs.«01_k».proof.Proof.LowRuns

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! The body's run at the first point: it quantises the activations into `codes`, `scale` and the scratch, then
multiplies as at every other point. -/

set_option sl_exec.resultNames true in
set_option maxHeartbeats 4000000 in
/-- What the body's stores leave in each output and in the scratch at the first point, as pieces (last first), with the
    proof that the body runs to the continuation holding the inputs as they were and those pieces written. -/
noncomputable def runA (c : Dev nD) (i : grid0.Coords)
    (arg1 : Memref sig .tc .smem S1 .f32) (harg1 : arg1.IsWhole)
    (arg2 : Memref sig .tc .vmem S256x4096 .bf16) (harg2 : arg2.IsWhole)
    (arg3 : Memref sig .tc .vmem S1024x2048 .i8) (harg3 : arg3.IsWhole)
    (arg4 : Memref sig .tc .vmem S1024x256 .fp8e4m3) (harg4 : arg4.IsWhole)
    (arg5 : Memref sig .tc .vmem S256x1024 .bf16) (harg5 : arg5.IsWhole)
    (arg6 : Memref sig .tc .vmem S256x4096 .fp8e4m3) (harg6 : arg6.IsWhole)
    (arg7 : Memref sig .tc .vmem S256x128 .f32) (harg7 : arg7.IsWhole)
    (arg8 : Memref sig .tc .vmem S256x2048 .bf16) (harg8 : arg8.IsWhole)
    (arg9 : Memref sig .tc .vmem S256x2048 .bf16) (harg9 : arg9.IsWhole)
    (hc0 : cond0_0 i)
    (x0 : Vec F S1 .f32) (x1 : Vec F S256x4096 .bf16) (x2 : Vec F S1024x2048 .i8) (x3 : Vec F S1024x256 .fp8e4m3) :
    Σ' (L4 : List (View.Piece (Elt F) S256x1024 .bf16)) (L5 : List (View.Piece (Elt F) S256x4096 .fp8e4m3))
      (L6 : List (View.Piece (Elt F) S256x128 .f32)) (LS0 : List (View.Piece (Elt F) S256x2048 .bf16)),
      { LS1 : List (View.Piece (Elt F) S256x2048 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0_nvfp4_matmul i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc0_nvfp4_matmul_eq_skeleton]; unfold cc0_nvfp4_matmul_skel
    simp only [k0_part151_eq_skeleton, k0_part54_eq_skeleton, k0_part53_eq_skeleton, k0_part1_eq_skeleton, k0_part2_eq_skeleton,
      k0_part3_eq_skeleton, k0_part4_eq_skeleton, k0_part5_eq_skeleton, k0_part6_eq_skeleton, k0_part7_eq_skeleton,
      k0_part8_eq_skeleton, k0_part9_eq_skeleton, k0_part10_eq_skeleton, k0_part11_eq_skeleton,
      k0_part12_eq_skeleton, k0_part13_eq_skeleton, k0_part14_eq_skeleton, k0_part15_eq_skeleton,
      k0_part16_eq_skeleton, k0_part17_eq_skeleton, k0_part18_eq_skeleton, k0_part19_eq_skeleton,
      k0_part20_eq_skeleton, k0_part21_eq_skeleton, k0_part22_eq_skeleton, k0_part23_eq_skeleton,
      k0_part24_eq_skeleton, k0_part25_eq_skeleton, k0_part26_eq_skeleton, k0_part27_eq_skeleton,
      k0_part28_eq_skeleton, k0_part29_eq_skeleton, k0_part30_eq_skeleton, k0_part31_eq_skeleton,
      k0_part32_eq_skeleton, k0_part33_eq_skeleton, k0_part34_eq_skeleton, k0_part35_eq_skeleton,
      k0_part36_eq_skeleton, k0_part37_eq_skeleton, k0_part38_eq_skeleton, k0_part39_eq_skeleton,
      k0_part40_eq_skeleton, k0_part41_eq_skeleton, k0_part42_eq_skeleton, k0_part43_eq_skeleton,
      k0_part44_eq_skeleton, k0_part45_eq_skeleton, k0_part46_eq_skeleton, k0_part47_eq_skeleton,
      k0_part48_eq_skeleton, k0_part49_eq_skeleton, k0_part50_eq_skeleton, k0_part51_eq_skeleton,
      k0_part52_eq_skeleton, k0_part55_eq_skeleton, k0_part56_eq_skeleton, k0_part57_eq_skeleton,
      k0_part58_eq_skeleton, k0_part59_eq_skeleton, k0_part60_eq_skeleton, k0_part61_eq_skeleton,
      k0_part62_eq_skeleton, k0_part63_eq_skeleton, k0_part64_eq_skeleton, k0_part65_eq_skeleton,
      k0_part66_eq_skeleton, k0_part67_eq_skeleton, k0_part68_eq_skeleton, k0_part69_eq_skeleton,
      k0_part70_eq_skeleton, k0_part71_eq_skeleton, k0_part72_eq_skeleton, k0_part73_eq_skeleton,
      k0_part74_eq_skeleton, k0_part75_eq_skeleton, k0_part76_eq_skeleton, k0_part77_eq_skeleton,
      k0_part78_eq_skeleton, k0_part79_eq_skeleton, k0_part80_eq_skeleton, k0_part81_eq_skeleton,
      k0_part82_eq_skeleton, k0_part83_eq_skeleton, k0_part84_eq_skeleton, k0_part85_eq_skeleton,
      k0_part86_eq_skeleton, k0_part87_eq_skeleton, k0_part88_eq_skeleton, k0_part89_eq_skeleton,
      k0_part90_eq_skeleton, k0_part91_eq_skeleton, k0_part92_eq_skeleton, k0_part93_eq_skeleton,
      k0_part94_eq_skeleton, k0_part95_eq_skeleton, k0_part96_eq_skeleton, k0_part97_eq_skeleton,
      k0_part98_eq_skeleton, k0_part99_eq_skeleton, k0_part100_eq_skeleton, k0_part101_eq_skeleton,
      k0_part102_eq_skeleton, k0_part103_eq_skeleton, k0_part104_eq_skeleton, k0_part105_eq_skeleton,
      k0_part106_eq_skeleton, k0_part107_eq_skeleton, k0_part108_eq_skeleton, k0_part109_eq_skeleton,
      k0_part110_eq_skeleton, k0_part111_eq_skeleton, k0_part112_eq_skeleton, k0_part113_eq_skeleton,
      k0_part152_eq_skeleton, k0_part114_eq_skeleton, k0_part115_eq_skeleton, k0_part116_eq_skeleton,
      k0_part117_eq_skeleton, k0_part118_eq_skeleton, k0_part119_eq_skeleton, k0_part120_eq_skeleton,
      k0_part121_eq_skeleton, k0_part122_eq_skeleton, k0_part123_eq_skeleton, k0_part124_eq_skeleton,
      k0_part125_eq_skeleton, k0_part126_eq_skeleton, k0_part127_eq_skeleton, k0_part128_eq_skeleton,
      k0_part129_eq_skeleton, k0_part130_eq_skeleton, k0_part131_eq_skeleton, k0_part132_eq_skeleton,
      k0_part133_eq_skeleton, k0_part134_eq_skeleton, k0_part135_eq_skeleton, k0_part136_eq_skeleton,
      k0_part137_eq_skeleton, k0_part138_eq_skeleton, k0_part139_eq_skeleton, k0_part140_eq_skeleton,
      k0_part141_eq_skeleton, k0_part142_eq_skeleton, k0_part143_eq_skeleton, k0_part144_eq_skeleton,
      k0_part145_eq_skeleton, k0_part146_eq_skeleton, k0_part147_eq_skeleton, k0_part148_eq_skeleton,
      k0_part149_eq_skeleton, k0_part150_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, Hk⟩
    obtain rfl := harg1.eq_unread hf0; obtain rfl := harg2.eq_unread hf1; obtain rfl := harg3.eq_unread hf2
    obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    iexists _; iexact HS1

end Cert.Kernel.Gen

end
-- ==== Proof.LowRunB.lean ====
module

public import proofs.«01_k».proof.Proof.LowRuns

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! The body's run at a point other than the first: the quantised activations are read from the scratch. -/

set_option sl_exec.resultNames true in
set_option maxHeartbeats 2000000 in
/-- What the body's stores leave in the product's block at a point other than the first, as pieces (last first), with the
    proof that the body runs to the continuation holding the inputs and the scratch as they were and that block's pieces
    written. The outputs `codes` and `scale` are not touched. -/
noncomputable def runB (c : Dev nD) (i : grid0.Coords)
    (arg1 : Memref sig .tc .smem S1 .f32) (harg1 : arg1.IsWhole)
    (arg2 : Memref sig .tc .vmem S256x4096 .bf16) (harg2 : arg2.IsWhole)
    (arg3 : Memref sig .tc .vmem S1024x2048 .i8) (harg3 : arg3.IsWhole)
    (arg4 : Memref sig .tc .vmem S1024x256 .fp8e4m3) (harg4 : arg4.IsWhole)
    (arg5 : Memref sig .tc .vmem S256x1024 .bf16) (harg5 : arg5.IsWhole)
    (arg6 : Memref sig .tc .vmem S256x4096 .fp8e4m3) (harg6 : arg6.IsWhole)
    (arg7 : Memref sig .tc .vmem S256x128 .f32) (harg7 : arg7.IsWhole)
    (arg8 : Memref sig .tc .vmem S256x2048 .bf16) (harg8 : arg8.IsWhole)
    (arg9 : Memref sig .tc .vmem S256x2048 .bf16) (harg9 : arg9.IsWhole)
    (hc0 : ¬cond0_0 i)
    (x0 : Vec F S1 .f32) (x1 : Vec F S256x4096 .bf16) (x2 : Vec F S1024x2048 .i8) (x3 : Vec F S1024x256 .fp8e4m3)
    (xs0 : Vec F S256x2048 .bf16) (xs1 : Vec F S256x2048 .bf16) :
    { L4 : List (View.Piece (Elt F) S256x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg8 fullShare xs0 ∗ owns (c : Thread nD τ) arg9 fullShare xs1) -∗ K ⟨⟩))
          ⊢ wp frame (wpE (defs₀ (F := F)) Variants.none c none) E (cc0_nvfp4_matmul i arg1 harg1 arg2 harg2 arg3 harg3 arg4 harg4 arg5 harg5 arg6 harg6 arg7 harg7 arg8 harg8 arg9 harg9) K } := by
  refine ⟨?_, fun E K => ?run⟩
  case run =>
    simp only [cc0_nvfp4_matmul_eq_skeleton]; unfold cc0_nvfp4_matmul_skel
    simp only [k0_part151_eq_skeleton, k0_part54_eq_skeleton, k0_part55_eq_skeleton, k0_part56_eq_skeleton,
      k0_part57_eq_skeleton, k0_part58_eq_skeleton, k0_part59_eq_skeleton, k0_part60_eq_skeleton,
      k0_part61_eq_skeleton, k0_part62_eq_skeleton, k0_part63_eq_skeleton, k0_part64_eq_skeleton,
      k0_part65_eq_skeleton, k0_part66_eq_skeleton, k0_part67_eq_skeleton, k0_part68_eq_skeleton,
      k0_part69_eq_skeleton, k0_part70_eq_skeleton, k0_part71_eq_skeleton, k0_part72_eq_skeleton,
      k0_part73_eq_skeleton, k0_part74_eq_skeleton, k0_part75_eq_skeleton, k0_part76_eq_skeleton,
      k0_part77_eq_skeleton, k0_part78_eq_skeleton, k0_part79_eq_skeleton, k0_part80_eq_skeleton,
      k0_part81_eq_skeleton, k0_part82_eq_skeleton, k0_part83_eq_skeleton, k0_part84_eq_skeleton,
      k0_part85_eq_skeleton, k0_part86_eq_skeleton, k0_part87_eq_skeleton, k0_part88_eq_skeleton,
      k0_part89_eq_skeleton, k0_part90_eq_skeleton, k0_part91_eq_skeleton, k0_part92_eq_skeleton,
      k0_part93_eq_skeleton, k0_part94_eq_skeleton, k0_part95_eq_skeleton, k0_part96_eq_skeleton,
      k0_part97_eq_skeleton, k0_part98_eq_skeleton, k0_part99_eq_skeleton, k0_part100_eq_skeleton,
      k0_part101_eq_skeleton, k0_part102_eq_skeleton, k0_part103_eq_skeleton, k0_part104_eq_skeleton,
      k0_part105_eq_skeleton, k0_part106_eq_skeleton, k0_part107_eq_skeleton, k0_part108_eq_skeleton,
      k0_part109_eq_skeleton, k0_part110_eq_skeleton, k0_part111_eq_skeleton, k0_part112_eq_skeleton,
      k0_part113_eq_skeleton, k0_part152_eq_skeleton, k0_part114_eq_skeleton, k0_part115_eq_skeleton,
      k0_part116_eq_skeleton, k0_part117_eq_skeleton, k0_part118_eq_skeleton, k0_part119_eq_skeleton,
      k0_part120_eq_skeleton, k0_part121_eq_skeleton, k0_part122_eq_skeleton, k0_part123_eq_skeleton,
      k0_part124_eq_skeleton, k0_part125_eq_skeleton, k0_part126_eq_skeleton, k0_part127_eq_skeleton,
      k0_part128_eq_skeleton, k0_part129_eq_skeleton, k0_part130_eq_skeleton, k0_part131_eq_skeleton,
      k0_part132_eq_skeleton, k0_part133_eq_skeleton, k0_part134_eq_skeleton, k0_part135_eq_skeleton,
      k0_part136_eq_skeleton, k0_part137_eq_skeleton, k0_part138_eq_skeleton, k0_part139_eq_skeleton,
      k0_part140_eq_skeleton, k0_part141_eq_skeleton, k0_part142_eq_skeleton, k0_part143_eq_skeleton,
      k0_part144_eq_skeleton, k0_part145_eq_skeleton, k0_part146_eq_skeleton, k0_part147_eq_skeleton,
      k0_part148_eq_skeleton, k0_part149_eq_skeleton, k0_part150_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hf3; obtain rfl := harg8.eq_unread hfs0; obtain rfl := harg9.eq_unread hfs1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [HS0]
    · iexists _; isplitr; · ipureintro; exact harg8.read_unread _
      iexact HS0
    iexists _; isplitr; · ipureintro; exact harg9.read_unread _
    iexact HS1

end Cert.Kernel.Gen

end
-- ==== Proof.LowTiles.lean ====
module

public import proofs.«01_k».proof.Proof.Gen.Kernel.Skeleton

@[expose] public section

/-! The kernel's computation on one 128-lane tile, each piece stated once for every tile: the kernel repeats it with
other offsets. A tile is 256 rows of 128 lanes; the activations are 32 tiles, a 256-row block of the weights 16 tiles. -/

noncomputable section

namespace Cert.Kernel.Tiles

open Idealize.ShloMosaic Idealize.ShloMosaic.TcCoe Cert.Kernel.Gen

variable {F : FTy → Type} [FloatOps F]

/-- The number of the lane. -/
abbrev lane : IVec S256x128 32 := iota .tc S256x128 32 [1] iota_S256x128_d1_w32

/-- A tile with lane `idx` of the row in each place (a negative index counts from the end). -/
def gather {α : Type} (v : S256x128.Idx → α) (idx : IVec S256x128 32) : S256x128.Idx → α :=
  dynamicGather 1 v (shapeCast S256x128 (shapeCast S256x128x1
    (select (cmpi .slt idx (broadcast S256x128 0#32)) (addi idx (broadcast S256x128 128#32)) idx)
    shapeCasts_S256x128_S256x128x1) shapeCasts_S256x128x1_S256x128)

/-- The same for bfloat16, which goes through float32. -/
def gatherB (v : FVec F S256x128 .bf16) (idx : IVec S256x128 32) : FVec F S256x128 .bf16 :=
  truncf .bf16 (gather (extf .f32 v bitsLt_bf16_f32) idx) bitsLt_bf16_f32

/-! ## The largest magnitude of each group -/

/-- The magnitudes of a tile of the activations. -/
def absT (v : Vec F S256x128 .bf16) : FVec F S256x128 .bf16 :=
  absf (shapeCast S256x128 v shapeCasts_S256x128_S256x128)

/-- The mask of the lanes whose number has bit `d`. -/
def upper (d : BitVec 32) : IVec S256x128 1 :=
  cmpi .ne (andi lane (broadcast S256x128 d)) (broadcast S256x128 0#32)

/-- One step of the butterfly: two tiles become one whose lane holds the larger of its own and of lane `l ^ d`'s
    value, the first tile's where bit `d` of the lane is clear and the second's where it is set. -/
def merge (d : BitVec 32) (a b : FVec F S256x128 .bf16) : FVec F S256x128 .bf16 :=
  maximumf (select (upper d) b a) (gatherB (select (upper d) a b) (xori lane (broadcast S256x128 d)))

/-- A level of the butterfly: `2 * n` tiles become `n`. -/
def level (n : ℕ) (a : Fin (n + n) → FVec F S256x128 .bf16) : Fin n → FVec F S256x128 .bf16 :=
  fun t => merge (BitVec.ofNat 32 n) (a ⟨t.val, by omega⟩) (a ⟨t.val + n, by omega⟩)

/-- The butterfly of 32 tiles: lane `l` of the result holds group `l / 32` of tile `l % 32`. -/
def groupMax (X : Fin 32 → Vec F S256x128 .bf16) : FVec F S256x128 .bf16 :=
  level 1 (level 2 (level 4 (level 8 (level 16 fun t => absT (X t))))) 0

/-! ## The scale of each group -/

/-- The group maximum over 448. -/
def ratio (a : FVec F S256x128 .bf16) : FVec F S256x128 .f32 :=
  mulf (extf .f32 a bitsLt_bf16_f32) (broadcast S256x128 (Scalar.ofBits .f32 0x3B124925#32 : F .f32))

/-- One step of the search for the exponent field. -/
def expStep (p : FVec F S256x128 .f32) (b : BitVec 32) (e : IVec S256x128 32) : IVec S256x128 32 :=
  select (cmpf .oge p (bitcastToFloat .f32 (shli (addi e (broadcast S256x128 b)) (broadcast S256x128 23#32))))
    (addi e (broadcast S256x128 b)) e

/-- The exponent field of a non-negative value, found from the top bit down. -/
def expField (p : FVec F S256x128 .f32) : IVec S256x128 32 :=
  expStep p 1#32 (expStep p 2#32 (expStep p 4#32 (expStep p 8#32 (expStep p 16#32 (expStep p 32#32
    (expStep p 64#32 (expStep p 128#32 (broadcast S256x128 0#32))))))))

/-- The bits of the scale. -/
def scaleBits (p : FVec F S256x128 .f32) : IVec S256x128 32 :=
  select (ori (cmpi .eq (shli (expField p) (broadcast S256x128 23#32)) (broadcast S256x128 0#32))
      (cmpi .eq (shli (expField p) (broadcast S256x128 23#32)) (broadcast S256x128 2139095040#32)))
    (broadcast S256x128 1065353216#32)
    (addi (shli (expField p) (broadcast S256x128 23#32)) (broadcast S256x128 8388608#32))

/-- The bits of every group's scale, from the activations' tiles. -/
def sbits (X : Fin 32 → Vec F S256x128 .bf16) : IVec S256x128 32 := scaleBits (ratio (groupMax X))

/-- The lane that holds group `l`'s scale. -/
def scaleIdx : IVec S256x128 32 :=
  addi (muli (andi lane (broadcast S256x128 3#32)) (broadcast S256x128 32#32)) (shrsi lane (broadcast S256x128 2#32))

/-- The scales in the order of the groups. -/
def scaleT (s : IVec S256x128 32) : FVec F S256x128 .f32 := gather (bitcastToFloat .f32 s) scaleIdx

/-! ## The codes and the quantised activations -/

/-- The scale's bits for every element of tile `u`. -/
def tileBits (s : IVec S256x128 32) (u : BitVec 32) : IVec S256x128 32 :=
  gather s (addi (andi lane (broadcast S256x128 96#32)) (broadcast S256x128 u))

/-- A bfloat16 constant of the clip. -/
abbrev clipC (b : BitVec 32) : FVec F S256x128 .bf16 :=
  broadcast S256x128 (Scalar.truncf .bf16 bitsLt_bf16_f32 (Scalar.ofBits .f32 b : F .f32))

/-- The codes of a tile: the values over their scales, clipped and rounded. -/
def codesT (sb : IVec S256x128 32) (x : Vec F S256x128 .bf16) : FVec F S256x128 .fp8e4m3 :=
  truncf .fp8e4m3 (minimumf (clipC 0x43E00000#32) (maximumf (clipC 0xC3E00000#32)
    (mulf (shapeCast S256x128 x shapeCasts_S256x128_S256x128)
      (truncf .bf16 (bitcastToFloat .f32 (subi (broadcast S256x128 2130706432#32) sb) : FVec F S256x128 .f32)
        bitsLt_bf16_f32)))) bitsLt_fp8e4m3_bf16

/-- A tile of the quantised activations: the codes times their scales. -/
def xsT (sb : IVec S256x128 32) (x : Vec F S256x128 .bf16) : FVec F S256x128 .bf16 :=
  mulf (extf .bf16 (codesT sb x) bitsLt_fp8e4m3_bf16)
    (truncf .bf16 (bitcastToFloat .f32 sb : FVec F S256x128 .f32) bitsLt_bf16_f32)

/-- The lanes a half of a tile of the even columns comes from. -/
def pickE : IVec S256x128 32 := andi (muli lane (broadcast S256x128 2#32)) (broadcast S256x128 127#32)
/-- The lanes a half of a tile of the odd columns comes from. -/
def pickO : IVec S256x128 32 := addi pickE (broadcast S256x128 1#32)

/-- Two neighbouring tiles' columns at `idx`, as one tile. -/
def pairT (idx : IVec S256x128 32) (a b : FVec F S256x128 .bf16) : FVec F S256x128 .bf16 :=
  shapeCast S256x128 (select (cmpi .slt lane (broadcast S256x128 64#32)) (gatherB a idx) (gatherB b idx))
    shapeCasts_S256x128_S256x128

/-! ## The weights -/

/-- Four rows of bytes as one row of words. -/
abbrev words (W : Vec F S256x128 .i8) : IVec S64x128 32 := bitcast S64x128 32 W bitcasts_S256x128_w8_S64x128_w32

/-- The low nibbles as the bits of a float8. -/
def loBits (W : Vec F S256x128 .i8) : IVec S64x128 32 :=
  ori (andi (shli (words W) (broadcast S64x128 2#32)) (broadcast S64x128 471604252#32))
    (andi (shli (words W) (broadcast S64x128 4#32)) (broadcast S64x128 2155905152#32))

/-- The high nibbles as the bits of a float8. -/
def hiBits (W : Vec F S256x128 .i8) : IVec S64x128 32 :=
  ori (andi (shrui (words W) (broadcast S64x128 2#32)) (broadcast S64x128 471604252#32))
    (andi (words W) (broadcast S64x128 2155905152#32))

/-- The sign of the divisor 8. -/
def sign8 : BitVec 32 :=
  Scalar.subi (Scalar.extui (Scalar.cmpi .sgt 8#32 0#32)) (Scalar.extui (Scalar.cmpi .slt 8#32 0#32))

/-- The lane over 8, rounded down. -/
def lane8 : IVec S256x128 32 :=
  select (andi (cmpi .ne (subi (extui 32 (cmpi .sgt lane (broadcast S256x128 0#32)) natLt_1_32)
        (extui 32 (cmpi .slt lane (broadcast S256x128 0#32)) natLt_1_32)) (broadcast S256x128 sign8))
      (cmpi .ne (remsi lane (broadcast S256x128 8#32)) (broadcast S256x128 0#32)))
    (subi (divsi lane (broadcast S256x128 8#32)) (broadcast S256x128 1#32))
    (divsi lane (broadcast S256x128 8#32))

/-- The block scales of a tile's lanes, `k` blocks into the tile of scales. -/
def blkScale (S : Vec F S256x128 .fp8e4m3) (k : BitVec 32) : FVec F S256x128 .bf16 :=
  extf .bf16 (truncf .fp8e4m3 (gather (extf .f32 S bitsLt_fp8e4m3_f32) (addi lane8 (broadcast S256x128 k)))
    bitsLt_fp8e4m3_f32) bitsLt_fp8e4m3_bf16

/-- A tile of weights from the bits of its float8 values and its block scales. -/
def deq (b : IVec S64x128 32) (s : FVec F S256x128 .bf16) : FVec F S256x128 .bf16 :=
  mulf (extf .bf16 (bitcastToFloat .fp8e4m3 (bitcast S256x128 8 b bitcasts_S64x128_w32_S256x128_w8) : FVec F S256x128 .fp8e4m3)
    bitsLt_fp8e4m3_bf16) s

/-! ## The product -/

/-- The product of 256 columns of activations with two tiles of weights. -/
def dot2 (x : Vec F S256x256 .bf16) (a b : FVec F S256x128 .bf16) : FVec F S256x256 .f32 :=
  matmul dot_S256x256_S256x256_S256x256_1_1_0_0_n_n none x
    (concatenate S256x256 1 [⟨S256x128, a⟩, ⟨S256x128, b⟩] concatenates_S256x128_S256x128_S256x256_d1)
    (constant S256x256 .f32 0x00000000#32)

/-- The even columns' product with two tiles. -/
def dotLo (x : Vec F S256x256 .bf16) (W0 W1 : Vec F S256x128 .i8) (S : Vec F S256x128 .fp8e4m3) (k0 k1 : BitVec 32) :
    FVec F S256x256 .f32 := dot2 x (deq (loBits W0) (blkScale S k0)) (deq (loBits W1) (blkScale S k1))

/-- The odd columns' product with two tiles. -/
def dotHi (x : Vec F S256x256 .bf16) (W0 W1 : Vec F S256x128 .i8) (S : Vec F S256x128 .fp8e4m3) (k0 k1 : BitVec 32) :
    FVec F S256x256 .f32 := dot2 x (deq (hiBits W0) (blkScale S k0)) (deq (hiBits W1) (blkScale S k1))

/-- The number of blocks before tile `t`, in its tile of scales. -/
abbrev blk0 (t : ℕ) : BitVec 32 := BitVec.ofNat 32 (16 * (t % 8))

/-- The product with the low nibbles of tiles `2 * k` and `2 * k + 1`. -/
def chunkE (E : Fin 8 → Vec F S256x256 .bf16) (W : Fin 16 → Vec F S256x128 .i8) (S : Fin 2 → Vec F S256x128 .fp8e4m3)
    (k : Fin 8) : FVec F S256x256 .f32 :=
  dotLo (E k) (W ⟨2 * k.val, by omega⟩) (W ⟨2 * k.val + 1, by omega⟩) (S ⟨k.val / 4, by omega⟩)
    (blk0 (2 * k.val)) (blk0 (2 * k.val + 1))

/-- The product with the high nibbles of tiles `2 * k` and `2 * k + 1`. -/
def chunkO (O : Fin 8 → Vec F S256x256 .bf16) (W : Fin 16 → Vec F S256x128 .i8) (S : Fin 2 → Vec F S256x128 .fp8e4m3)
    (k : Fin 8) : FVec F S256x256 .f32 :=
  dotHi (O k) (W ⟨2 * k.val, by omega⟩) (W ⟨2 * k.val + 1, by omega⟩) (S ⟨k.val / 4, by omega⟩)
    (blk0 (2 * k.val)) (blk0 (2 * k.val + 1))

/-- The sum of the products up to chunk `k`. -/
def accTo (E O : Fin 8 → Vec F S256x256 .bf16) (W : Fin 16 → Vec F S256x128 .i8) (S : Fin 2 → Vec F S256x128 .fp8e4m3) :
    (k : ℕ) → k < 8 → FVec F S256x256 .f32
  | 0, h => addf (chunkE E W S ⟨0, h⟩) (chunkO O W S ⟨0, h⟩)
  | k + 1, h => addf (addf (accTo E O W S k (by omega)) (chunkE E W S ⟨k + 1, h⟩)) (chunkO O W S ⟨k + 1, h⟩)

/-- A 256-column block of the result. -/
def yBlock (g : Elt F .f32) (E O : Fin 8 → Vec F S256x256 .bf16) (W : Fin 16 → Vec F S256x128 .i8)
    (S : Fin 2 → Vec F S256x128 .fp8e4m3) : FVec F S256x256 .bf16 :=
  truncf .bf16 (mulf (mulf (accTo E O W S 7 (by omega))
    (broadcast S256x256 (Scalar.ofBits .f32 0x42800000#32 : F .f32))) (broadcast S256x256 g)) bitsLt_bf16_f32

end Cert.Kernel.Tiles

end
-- ==== Proof.LowPiecesB.lean ====
module

public import proofs.«01_k».proof.Proof.LowRunB
public import proofs.«01_k».proof.Proof.LowTiles

@[expose] public section

/-! What the body stores at a point other than the first, in the words of `Tiles`. -/

set_option maxRecDepth 16384

noncomputable section

namespace Cert.Kernel.Tiles

open Idealize.ShloMosaic Idealize.ShloMosaic.TcCoe Cert.Kernel.Gen

variable {F : FTy → Type} [FloatOps F]

theorem inbW (n : Fin 4) (t : Fin 16) : ∀ a, (![256 * n.val, 128 * t.val] : Fin 2 → ℕ) a + S256x128.size a ≤ S1024x2048.size a := by
  intro a; match a with
  | ⟨0, _⟩ => show 256 * n.val + 256 ≤ 1024; omega
  | ⟨1, _⟩ => show 128 * t.val + 128 ≤ 2048; omega
theorem inbS (n : Fin 4) (t : Fin 2) : ∀ a, (![256 * n.val, 128 * t.val] : Fin 2 → ℕ) a + S256x128.size a ≤ S1024x256.size a := by
  intro a; match a with
  | ⟨0, _⟩ => show 256 * n.val + 256 ≤ 1024; omega
  | ⟨1, _⟩ => show 128 * t.val + 128 ≤ 256; omega
theorem inbE (k : Fin 8) : ∀ a, (![0, 256 * k.val] : Fin 2 → ℕ) a + S256x256.size a ≤ S256x2048.size a := by
  intro a; match a with
  | ⟨0, _⟩ => show 0 + 256 ≤ 256; omega
  | ⟨1, _⟩ => show 256 * k.val + 256 ≤ 2048; omega
theorem inbX (k : Fin 32) : ∀ a, (![0, 128 * k.val] : Fin 2 → ℕ) a + S256x128.size a ≤ S256x4096.size a := by
  intro a; match a with
  | ⟨0, _⟩ => show 0 + 256 ≤ 256; omega
  | ⟨1, _⟩ => show 128 * k.val + 128 ≤ 4096; omega
theorem inbY (n : Fin 4) : ∀ a, (![0, 256 * n.val] : Fin 2 → ℕ) a + S256x256.size a ≤ S256x1024.size a := by
  intro a; match a with
  | ⟨0, _⟩ => show 0 + 256 ≤ 256; omega
  | ⟨1, _⟩ => show 256 * n.val + 256 ≤ 1024; omega
theorem inbH (t : Fin 16) : ∀ a, (![0, 128 * t.val] : Fin 2 → ℕ) a + S256x128.size a ≤ S256x2048.size a := by
  intro a; match a with
  | ⟨0, _⟩ => show 0 + 256 ≤ 256; omega
  | ⟨1, _⟩ => show 128 * t.val + 128 ≤ 2048; omega

/-- The tile of weights at row block `n`, tile `t` of a point's block. -/
abbrev rW (n : Fin 4) (t : Fin 16) : Rect S1024x2048 := Rect.unit ![256 * n.val, 128 * t.val] S256x128.size (inbW n t)
abbrev rS (n : Fin 4) (t : Fin 2) : Rect S1024x256 := Rect.unit ![256 * n.val, 128 * t.val] S256x128.size (inbS n t)
abbrev rE (k : Fin 8) : Rect S256x2048 := Rect.unit ![0, 256 * k.val] S256x256.size (inbE k)
abbrev rX (k : Fin 32) : Rect S256x4096 := Rect.unit ![0, 128 * k.val] S256x128.size (inbX k)
abbrev rY (n : Fin 4) : Rect S256x1024 := Rect.unit ![0, 256 * n.val] S256x256.size (inbY n)
abbrev rH (t : Fin 16) : Rect S256x2048 := Rect.unit ![0, 128 * t.val] S256x128.size (inbH t)

section
variable (c : Dev nD) (i : grid0.Coords) (arg1 : Memref sig .tc .smem S1 .f32) (harg1 : arg1.IsWhole)
    (arg2 : Memref sig .tc .vmem S256x4096 .bf16) (harg2 : arg2.IsWhole)
    (arg3 : Memref sig .tc .vmem S1024x2048 .i8) (harg3 : arg3.IsWhole)
    (arg4 : Memref sig .tc .vmem S1024x256 .fp8e4m3) (harg4 : arg4.IsWhole)
    (arg5 : Memref sig .tc .vmem S256x1024 .bf16) (harg5 : arg5.IsWhole)
    (arg6 : Memref sig .tc .vmem S256x4096 .fp8e4m3) (harg6 : arg6.IsWhole)
    (arg7 : Memref sig .tc .vmem S256x128 .f32) (harg7 : arg7.IsWhole)
    (arg8 : Memref sig .tc .vmem S256x2048 .bf16) (harg8 : arg8.IsWhole)
    (arg9 : Memref sig .tc .vmem S256x2048 .bf16) (harg9 : arg9.IsWhole)
    (hc0 : ¬cond0_0 i)
    (x0 : Vec F S1 .f32) (x1 : Vec F S256x4096 .bf16) (x2 : Vec F S1024x2048 .i8) (x3 : Vec F S1024x256 .fp8e4m3)
    (xs0 : Vec F S256x2048 .bf16) (xs1 : Vec F S256x2048 .bf16)

/-- The block of the result at column block `n`, from the loads as the body makes them. -/
def yLoad (n : Fin 4) : FVec F S256x256 .bf16 :=
  yBlock (View.readAt (Elt F) arg1.view (Rect.unit ![0] S1.size inb_S1_S1_0).toLoadRect (harg1.unread x0) (Shape.Idx.first (by decide)))
    (fun k => View.readAt (Elt F) arg8.view (rE k).toLoadRect (harg8.unread xs0))
    (fun k => View.readAt (Elt F) arg9.view (rE k).toLoadRect (harg9.unread xs1))
    (fun t => View.readAt (Elt F) arg3.view (rW n t).toLoadRect (harg3.unread x2))
    (fun t => View.readAt (Elt F) arg4.view (rS n t).toLoadRect (harg4.unread x3))

/-- The pieces a point other than the first writes are the four column blocks. -/
theorem runB_pieces :
    (runB c i arg1 harg1 arg2 harg2 arg3 harg3 arg4 harg4 arg5 harg5 arg6 harg6 arg7 harg7 arg8 harg8 arg9 harg9 hc0
      x0 x1 x2 x3 xs0 xs1).1
    = (List.finRange 4).reverse.map fun n =>
        ⟨rY n, yLoad arg1 harg1 arg3 harg3 arg4 harg4 arg8 harg8 arg9 harg9 x0 x2 x3 xs0 xs1 n⟩ := by
  with_unfolding_all rfl
end

end Cert.Kernel.Tiles

end
-- ==== Proof.LowPiecesA.lean ====
module

public import proofs.«01_k».proof.Proof.LowRunA
public import proofs.«01_k».proof.Proof.LowPiecesB

@[expose] public section

/-! What the body stores at the first point, in the words of `Tiles`. -/

set_option maxRecDepth 16384

noncomputable section

namespace Cert.Kernel.Tiles

open Idealize.ShloMosaic Idealize.ShloMosaic.TcCoe Cert.Kernel.Gen

variable {F : FTy → Type} [FloatOps F]

section
variable (c : Dev nD) (i : grid0.Coords) (arg1 : Memref sig .tc .smem S1 .f32) (harg1 : arg1.IsWhole)
    (arg2 : Memref sig .tc .vmem S256x4096 .bf16) (harg2 : arg2.IsWhole)
    (arg3 : Memref sig .tc .vmem S1024x2048 .i8) (harg3 : arg3.IsWhole)
    (arg4 : Memref sig .tc .vmem S1024x256 .fp8e4m3) (harg4 : arg4.IsWhole)
    (arg5 : Memref sig .tc .vmem S256x1024 .bf16) (harg5 : arg5.IsWhole)
    (arg6 : Memref sig .tc .vmem S256x4096 .fp8e4m3) (harg6 : arg6.IsWhole)
    (arg7 : Memref sig .tc .vmem S256x128 .f32) (harg7 : arg7.IsWhole)
    (arg8 : Memref sig .tc .vmem S256x2048 .bf16) (harg8 : arg8.IsWhole)
    (arg9 : Memref sig .tc .vmem S256x2048 .bf16) (harg9 : arg9.IsWhole)
    (hc0 : cond0_0 i)
    (x0 : Vec F S1 .f32) (x1 : Vec F S256x4096 .bf16) (x2 : Vec F S1024x2048 .i8) (x3 : Vec F S1024x256 .fp8e4m3)

/-- A tile of the activations as the body loads it. -/
abbrev xLoad (u : Fin 32) : Vec F S256x128 .bf16 := View.readAt (Elt F) arg2.view (rX u).toLoadRect (harg2.unread x1)

/-- The bits of the scales as the body names them. -/
abbrev sb : IVec S256x128 32 := runA.sl.v4912 c arg2 harg2 x1

theorem sb_eq : sb c arg2 harg2 x1 = sbits (fun u => xLoad arg2 harg2 x1 u) := by
  with_unfolding_all rfl

/-- The codes of tile `u`, from the loads as the body makes them. -/
def cLoad (u : Fin 32) : FVec F S256x128 .fp8e4m3 :=
  codesT (tileBits (sb c arg2 harg2 x1) (BitVec.ofNat 32 u.val)) (xLoad arg2 harg2 x1 u)

/-- The quantised activations of tile `u`. -/
def xsLoad (u : Fin 32) : FVec F S256x128 .bf16 :=
  xsT (tileBits (sb c arg2 harg2 x1) (BitVec.ofNat 32 u.val)) (xLoad arg2 harg2 x1 u)

/-- A tile of the even (`pickE`) or odd (`pickO`) columns. -/
def hLoad (idx : IVec S256x128 32) (t : Fin 16) : FVec F S256x128 .bf16 :=
  pairT idx (xsLoad c arg2 harg2 x1 ⟨2 * t.val, by omega⟩) (xsLoad c arg2 harg2 x1 ⟨2 * t.val + 1, by omega⟩)

theorem runA_codes : (runA c i arg1 harg1 arg2 harg2 arg3 harg3 arg4 harg4 arg5 harg5 arg6 harg6 arg7 harg7 arg8 harg8 arg9 harg9 hc0
      x0 x1 x2 x3).2.1
    = (List.finRange 32).reverse.map fun u => ⟨rX u, cLoad c arg2 harg2 x1 u⟩ := by
  with_unfolding_all rfl

theorem runA_scale : (runA c i arg1 harg1 arg2 harg2 arg3 harg3 arg4 harg4 arg5 harg5 arg6 harg6 arg7 harg7 arg8 harg8 arg9 harg9 hc0
      x0 x1 x2 x3).2.2.1
    = [⟨Rect.unit ![0, 0] S256x128.size inb_S256x128_S256x128_0_0, scaleT (sb c arg2 harg2 x1)⟩] := by
  with_unfolding_all rfl

theorem runA_even : runA.sl.HS0_16 c arg2 harg2 x1
    = (List.finRange 16).reverse.map fun u => ⟨rH u, hLoad c arg2 harg2 x1 pickE u⟩ := by
  with_unfolding_all rfl

theorem runA_odd : runA.sl.HS1_16 c arg2 harg2 x1
    = (List.finRange 16).reverse.map fun u => ⟨rH u, hLoad c arg2 harg2 x1 pickO u⟩ := by
  with_unfolding_all rfl

/-- The block of the result at column block `n`, from the loads as the body makes them. -/
def yLoadA (n : Fin 4) : FVec F S256x256 .bf16 :=
  yBlock (View.readAt (Elt F) arg1.view (Rect.unit ![0] S1.size inb_S1_S1_0).toLoadRect (harg1.unread x0) (Shape.Idx.first (by decide)))
    (fun k => arg8.view.readCov (runA.sl.HS0_16 c arg2 harg2 x1) (rE k).toLoadRect)
    (fun k => arg9.view.readCov (runA.sl.HS1_16 c arg2 harg2 x1) (rE k).toLoadRect)
    (fun t => View.readAt (Elt F) arg3.view (rW n t).toLoadRect (harg3.unread x2))
    (fun t => View.readAt (Elt F) arg4.view (rS n t).toLoadRect (harg4.unread x3))

theorem runA_y : (runA c i arg1 harg1 arg2 harg2 arg3 harg3 arg4 harg4 arg5 harg5 arg6 harg6 arg7 harg7 arg8 harg8 arg9 harg9 hc0
      x0 x1 x2 x3).1
    = (List.finRange 4).reverse.map fun u => ⟨rY u, yLoadA c arg1 harg1 arg2 harg2 arg3 harg3 arg4 harg4 arg8 arg9 x0 x1 x2 x3 u⟩ := by
  with_unfolding_all rfl
end

end Cert.Kernel.Tiles

end
-- ==== Proof.LowContents.lean ====
module

public import proofs.«01_k».proof.Proof.LowPiecesA
public import Idealize.ShloMosaic.Lib.Pipeline.Value
public import Idealize.ShloMosaic.Lib.WholeRead
public import Idealize.ShloMosaic.Lib.ValueIdxCore

@[expose] public section

/-! The contents the body leaves in each buffer, as a function of the index. -/

noncomputable section

namespace Cert.Kernel.Tiles

open Idealize.ShloMosaic Idealize.ShloMosaic.TcCoe Cert.Kernel.Gen
open Idealize.ShloMosaic.ValueIdx (ix2 eq_ix2)

/-! ## Column blocks -/

section
variable {Val : EltTy → Type} [∀ e, Nonempty (Val e)] {e : EltTy} {R C w n : ℕ}

/-- The value at an index of `n` blocks of `w` columns side by side. -/
def cols (hC : C = w * n) (f : Fin n → (⟨2, ![R, w]⟩ : Shape).Idx → Val e) (y : (⟨2, ![R, C]⟩ : Shape).Idx) : Val e :=
  f ⟨(y 1).val / w, Nat.div_lt_of_lt_mul (Nat.lt_of_lt_of_eq (y 1).isLt hC)⟩
    (ix2 (y 0) ⟨(y 1).val % w, Nat.mod_lt _ (Nat.pos_of_ne_zero fun h => by
      have := (y 1).isLt; subst h; simp [hC] at this)⟩)

/-- What the stores of `n` column blocks leave, whatever the buffer and its prior contents. -/
theorem read_cols {sig : RefSig} {κ : Kind} {sp : Space} (v : View sig κ sp ⟨2, ![R, C]⟩ e) (g : v.ty.Contents Val)
    (hC : C = w * n) (f : Fin n → (⟨2, ![R, w]⟩ : Shape).Idx → Val e)
    (inb : ∀ (u : Fin n) a, (![0, w * u.val] : Fin 2 → ℕ) a + (![R, w] : Fin 2 → ℕ) a ≤ (![R, C] : Fin 2 → ℕ) a)
    (L : List (View.Piece Val ⟨2, ![R, C]⟩ e))
    (hL : L = (List.finRange n).reverse.map fun u =>
      (⟨Rect.unit (s := ⟨2, ![R, C]⟩) ![0, w * u.val] ![R, w] (inb u), f u⟩ : View.Piece Val ⟨2, ![R, C]⟩ e)) :
    v.read Val (v.writes Val g L) = cols hC f ∧ View.canon L = cols hC f := by
  subst hL
  have hcov : ∀ y : (⟨2, ![R, C]⟩ : Shape).Idx, ∃ p ∈ (List.finRange n).reverse.map fun u =>
      (⟨Rect.unit (s := ⟨2, ![R, C]⟩) ![0, w * u.val] ![R, w] (inb u), f u⟩ : View.Piece Val ⟨2, ![R, C]⟩ e), y ∈ p.1.set := by
    intro y
    have hw : 0 < w := Nat.pos_of_ne_zero fun h => by have := (y 1).isLt; subst h; simp [hC] at this
    have hu : (y 1).val / w < n := Nat.div_lt_of_lt_mul (Nat.lt_of_lt_of_eq (y 1).isLt hC)
    refine ⟨_, List.mem_map.mpr ⟨⟨_, hu⟩, by simp, rfl⟩, ?_⟩
    rw [Rect.mem_set_unit]
    have h1 := Nat.div_add_mod (y 1).val w
    have h2 := Nat.mod_lt (y 1).val hw
    intro a
    match a with
    | ⟨0, _⟩ => exact ⟨Nat.zero_le _, by simpa using (y 0).isLt⟩
    | ⟨1, _⟩ => show w * ((y 1).val / w) ≤ (y 1).val ∧ (y 1).val < w * ((y 1).val / w) + w; omega
  have hcan : View.canon ((List.finRange n).reverse.map fun u =>
      (⟨Rect.unit (s := ⟨2, ![R, C]⟩) ![0, w * u.val] ![R, w] (inb u), f u⟩ : View.Piece Val ⟨2, ![R, C]⟩ e)) = cols hC f := by
    funext y
    refine View.canon_apply_of_pieces (cols hC f) _ (fun p hp x => ?_) y (hcov y)
    obtain ⟨u, -, rfl⟩ := List.mem_map.mp hp
    have hx : (x 1).val < w := (x 1).isLt
    have e0 : ((Rect.unit (s := ⟨2, ![R, C]⟩) ![0, w * u.val] ![R, w] (inb u)).emb x 0).val = (x 0).val := by
      show 0 + 1 * (x 0).val = _; omega
    have e1 : ((Rect.unit (s := ⟨2, ![R, C]⟩) ![0, w * u.val] ![R, w] (inb u)).emb x 1).val = w * u.val + (x 1).val := by
      show w * u.val + 1 * (x 1).val = _; omega
    have hdiv : (w * u.val + (x 1).val) / w = u.val := by
      rw [Nat.mul_add_div (by omega), Nat.div_eq_of_lt hx, Nat.add_zero]
    have hmod : (w * u.val + (x 1).val) % w = (x 1).val := by
      rw [Nat.mul_add_mod, Nat.mod_eq_of_lt hx]
    show f u x = f _ _
    congr 1
    · congr 1; exact Fin.ext (by show u.val = _ / w; rw [e1, hdiv])
    · funext a
      match a with
      | ⟨0, _⟩ => exact Fin.ext e0.symm
      | ⟨1, _⟩ => exact Fin.ext (by show (x 1).val = _ % w; rw [e1, hmod])
  exact ⟨(View.read_writes_eq_canon v g _ hcov).trans hcan, hcan⟩

/-- What one store of the whole buffer leaves. -/
theorem read_whole {S : Shape} {sig : RefSig} {κ : Kind} {sp : Space} (v : View sig κ sp S e) (g : v.ty.Contents Val)
    {off : Fin S.rank → ℕ} (hz : off = fun _ => 0) (inb : ∀ a, off a + S.size a ≤ S.size a) (x : S.Idx → Val e)
    (L : List (View.Piece Val S e)) (hL : L = [⟨Rect.unit off S.size inb, x⟩]) :
    v.read Val (v.writes Val g L) = x := by
  subst hL
  exact (View.read_writes_eq_canon v g _ fun y => ⟨_, List.mem_singleton_self _, View.mem_set_unit_zero hz inb y⟩).trans
    (View.canon_unit_zero hz inb x)
end

variable {F : FTy → Type} [FloatOps F]

/-! ## The quantised activations, from the whole of `x` -/

/-- Tile `u` of the activations. -/
def tileX (X : Vec F S256x4096 .bf16) (u : Fin 32) : Vec F S256x128 .bf16 := View.ld X (rX u)
/-- The bits of the scales. -/
def SB (X : Vec F S256x4096 .bf16) : IVec S256x128 32 := sbits (tileX X)
/-- The codes of tile `u`. -/
def codesP (X : Vec F S256x4096 .bf16) (u : Fin 32) : FVec F S256x128 .fp8e4m3 :=
  codesT (tileBits (SB X) (BitVec.ofNat 32 u.val)) (tileX X u)
/-- The quantised activations of tile `u`. -/
def xsP (X : Vec F S256x4096 .bf16) (u : Fin 32) : FVec F S256x128 .bf16 :=
  xsT (tileBits (SB X) (BitVec.ofNat 32 u.val)) (tileX X u)
/-- Tile `t` of the even (`pickE`) or odd (`pickO`) columns. -/
def halfP (X : Vec F S256x4096 .bf16) (idx : IVec S256x128 32) (t : Fin 16) : FVec F S256x128 .bf16 :=
  pairT idx (xsP X ⟨2 * t.val, by omega⟩) (xsP X ⟨2 * t.val + 1, by omega⟩)

/-- The codes. -/
def codesV (X : Vec F S256x4096 .bf16) : Vec F S256x4096 .fp8e4m3 :=
  cols (Val := Elt F) (e := .fp8e4m3) (R := 256) (C := 4096) (w := 128) (n := 32) rfl (codesP X)
/-- The scales. -/
def scaleV (X : Vec F S256x4096 .bf16) : Vec F S256x128 .f32 := scaleT (SB X)
/-- The even (`pickE`) or odd (`pickO`) columns of the quantised activations. -/
def halfV (X : Vec F S256x4096 .bf16) (idx : IVec S256x128 32) : Vec F S256x2048 .bf16 :=
  cols (Val := Elt F) (e := .bf16) (R := 256) (C := 2048) (w := 128) (n := 16) rfl (halfP X idx)

/-- A column block of a point's block of the result. -/
def yP (g : Elt F .f32) (E O : Vec F S256x2048 .bf16) (W : Vec F S1024x2048 .i8) (S : Vec F S1024x256 .fp8e4m3) (n : Fin 4) :
    FVec F S256x256 .bf16 :=
  yBlock g (fun k => View.ld E (rE k)) (fun k => View.ld O (rE k)) (fun t => View.ld W (rW n t)) (fun t => View.ld S (rS n t))
/-- A point's block of the result. -/
def yV (g : Elt F .f32) (E O : Vec F S256x2048 .bf16) (W : Vec F S1024x2048 .i8) (S : Vec F S1024x256 .fp8e4m3) :
    Vec F S256x1024 .bf16 :=
  cols (Val := Elt F) (e := .bf16) (R := 256) (C := 1024) (w := 256) (n := 4) rfl (yP g E O W S)

/-- The one entry of the global scale. -/
def gOf (x0 : Vec F S1 .f32) : Elt F .f32 := x0 (fun _ => ⟨0, by decide +revert⟩)

section
variable (c : Dev nD) (i : grid0.Coords) (arg1 : Memref sig .tc .smem S1 .f32) (harg1 : arg1.IsWhole)
    (arg2 : Memref sig .tc .vmem S256x4096 .bf16) (harg2 : arg2.IsWhole)
    (arg3 : Memref sig .tc .vmem S1024x2048 .i8) (harg3 : arg3.IsWhole)
    (arg4 : Memref sig .tc .vmem S1024x256 .fp8e4m3) (harg4 : arg4.IsWhole)
    (arg5 : Memref sig .tc .vmem S256x1024 .bf16) (harg5 : arg5.IsWhole)
    (arg6 : Memref sig .tc .vmem S256x4096 .fp8e4m3) (harg6 : arg6.IsWhole)
    (arg7 : Memref sig .tc .vmem S256x128 .f32) (harg7 : arg7.IsWhole)
    (arg8 : Memref sig .tc .vmem S256x2048 .bf16) (harg8 : arg8.IsWhole)
    (arg9 : Memref sig .tc .vmem S256x2048 .bf16) (harg9 : arg9.IsWhole)
    (x0 : Vec F S1 .f32) (x1 : Vec F S256x4096 .bf16) (x2 : Vec F S1024x2048 .i8) (x3 : Vec F S1024x256 .fp8e4m3)
    (xs0 : Vec F S256x2048 .bf16) (xs1 : Vec F S256x2048 .bf16)

theorem xLoad_eq (u : Fin 32) : xLoad arg2 harg2 x1 u = tileX x1 u :=
  funext fun x => harg2.readAt_unread x1 (rX u).toLoadRect x
theorem wLoad_eq (n : Fin 4) (t : Fin 16) :
    View.readAt (Elt F) arg3.view (rW n t).toLoadRect (harg3.unread x2) = View.ld x2 (rW n t) :=
  funext fun x => harg3.readAt_unread x2 _ x
theorem sLoad_eq (n : Fin 4) (t : Fin 2) :
    View.readAt (Elt F) arg4.view (rS n t).toLoadRect (harg4.unread x3) = View.ld x3 (rS n t) :=
  funext fun x => harg4.readAt_unread x3 _ x
theorem eLoad_eq (k : Fin 8) :
    View.readAt (Elt F) arg8.view (rE k).toLoadRect (harg8.unread xs0) = View.ld xs0 (rE k) :=
  funext fun x => harg8.readAt_unread xs0 _ x
theorem gLoad_eq (h) : View.readAt (Elt F) arg1.view (Rect.unit ![0] S1.size inb_S1_S1_0).toLoadRect (harg1.unread x0)
    (Shape.Idx.first h) = gOf x0 := by
  rw [harg1.readAt_unread]
  refine congrArg x0 (funext fun a => ?_)
  match a with
  | ⟨0, _⟩ => exact Fin.ext rfl

theorem sb_eq_SB : sb c arg2 harg2 x1 = SB x1 := by
  rw [sb_eq]; unfold SB; congr 1; funext u; exact xLoad_eq arg2 harg2 x1 u
theorem cLoad_eq (u : Fin 32) : cLoad c arg2 harg2 x1 u = codesP x1 u := by
  unfold cLoad codesP; rw [sb_eq_SB, xLoad_eq]
theorem xsLoad_eq (u : Fin 32) : xsLoad c arg2 harg2 x1 u = xsP x1 u := by
  unfold xsLoad xsP; rw [sb_eq_SB, xLoad_eq]
theorem hLoad_eq (idx : IVec S256x128 32) (t : Fin 16) : hLoad c arg2 harg2 x1 idx t = halfP x1 idx t := by
  unfold hLoad halfP; rw [xsLoad_eq, xsLoad_eq]
theorem yLoad_eq (n : Fin 4) : yLoad arg1 harg1 arg3 harg3 arg4 harg4 arg8 harg8 arg9 harg9 x0 x2 x3 xs0 xs1 n
    = yP (gOf x0) xs0 xs1 x2 x3 n := by
  unfold yLoad yP; rw [gLoad_eq]; simp only [wLoad_eq, sLoad_eq, eLoad_eq]

/-- The even columns the first point leaves in the scratch. -/
theorem read_even (v : View sig .tc .vmem S256x2048 .bf16) (g : v.ty.Contents (Elt F)) :
    v.read (Elt F) (v.writes (Elt F) g (runA.sl.HS0_16 c arg2 harg2 x1)) = halfV x1 pickE
      ∧ View.canon (runA.sl.HS0_16 c arg2 harg2 x1) = halfV x1 pickE :=
  read_cols (w := 128) (n := 16) v g rfl (halfP x1 pickE) inbH _ ((runA_even c arg2 harg2 x1).trans (by simp only [hLoad_eq]))

/-- The odd columns the first point leaves in the scratch. -/
theorem read_odd (v : View sig .tc .vmem S256x2048 .bf16) (g : v.ty.Contents (Elt F)) :
    v.read (Elt F) (v.writes (Elt F) g (runA.sl.HS1_16 c arg2 harg2 x1)) = halfV x1 pickO
      ∧ View.canon (runA.sl.HS1_16 c arg2 harg2 x1) = halfV x1 pickO :=
  read_cols (w := 128) (n := 16) v g rfl (halfP x1 pickO) inbH _ ((runA_odd c arg2 harg2 x1).trans (by simp only [hLoad_eq]))

theorem yLoadA_eq (n : Fin 4) : yLoadA c arg1 harg1 arg2 harg2 arg3 harg3 arg4 harg4 arg8 arg9 x0 x1 x2 x3 n
    = yP (gOf x0) (halfV x1 pickE) (halfV x1 pickO) x2 x3 n := by
  unfold yLoadA yP; rw [gLoad_eq]
  simp only [wLoad_eq, sLoad_eq, View.readCov_eq_canon', (read_even c arg2 harg2 x1 arg8.view arg8.view.junk).2,
    (read_odd c arg2 harg2 x1 arg9.view arg9.view.junk).2]

section
variable (hc0 : ¬cond0_0 i)
/-- The block of the result a point other than the first leaves. -/
theorem readB_y (v : View sig .tc .vmem S256x1024 .bf16) (g : v.ty.Contents (Elt F)) :
    v.read (Elt F) (v.writes (Elt F) g (runB c i arg1 harg1 arg2 harg2 arg3 harg3 arg4 harg4 arg5 harg5 arg6 harg6 arg7 harg7
      arg8 harg8 arg9 harg9 hc0 x0 x1 x2 x3 xs0 xs1).1) = yV (gOf x0) xs0 xs1 x2 x3 :=
  (read_cols (w := 256) (n := 4) v g rfl (yP (gOf x0) xs0 xs1 x2 x3) inbY _
    ((runB_pieces c i arg1 harg1 arg2 harg2 arg3 harg3 arg4 harg4 arg5 harg5 arg6 harg6 arg7 harg7
      arg8 harg8 arg9 harg9 hc0 x0 x1 x2 x3 xs0 xs1).trans (by simp only [yLoad_eq]))).1
end

section
variable (hc0 : cond0_0 i)
/-- The block of the result the first point leaves. -/
theorem readA_y (v : View sig .tc .vmem S256x1024 .bf16) (g : v.ty.Contents (Elt F)) :
    v.read (Elt F) (v.writes (Elt F) g (runA c i arg1 harg1 arg2 harg2 arg3 harg3 arg4 harg4 arg5 harg5 arg6 harg6 arg7 harg7
      arg8 harg8 arg9 harg9 hc0 x0 x1 x2 x3).1) = yV (gOf x0) (halfV x1 pickE) (halfV x1 pickO) x2 x3 :=
  (read_cols (w := 256) (n := 4) v g rfl (yP (gOf x0) (halfV x1 pickE) (halfV x1 pickO) x2 x3) inbY _
    ((runA_y c i arg1 harg1 arg2 harg2 arg3 harg3 arg4 harg4 arg5 harg5 arg6 harg6 arg7 harg7
      arg8 harg8 arg9 harg9 hc0 x0 x1 x2 x3).trans (by simp only [yLoadA_eq]))).1

/-- The codes the first point leaves. -/
theorem readA_codes (v : View sig .tc .vmem S256x4096 .fp8e4m3) (g : v.ty.Contents (Elt F)) :
    v.read (Elt F) (v.writes (Elt F) g (runA c i arg1 harg1 arg2 harg2 arg3 harg3 arg4 harg4 arg5 harg5 arg6 harg6 arg7 harg7
      arg8 harg8 arg9 harg9 hc0 x0 x1 x2 x3).2.1) = codesV x1 :=
  (read_cols (w := 128) (n := 32) v g rfl (codesP x1) inbX _
    ((runA_codes c i arg1 harg1 arg2 harg2 arg3 harg3 arg4 harg4 arg5 harg5 arg6 harg6 arg7 harg7
      arg8 harg8 arg9 harg9 hc0 x0 x1 x2 x3).trans (by simp only [cLoad_eq]))).1

/-- The scales the first point leaves. -/
theorem readA_scale (v : View sig .tc .vmem S256x128 .f32) (g : v.ty.Contents (Elt F)) :
    v.read (Elt F) (v.writes (Elt F) g (runA c i arg1 harg1 arg2 harg2 arg3 harg3 arg4 harg4 arg5 harg5 arg6 harg6 arg7 harg7
      arg8 harg8 arg9 harg9 hc0 x0 x1 x2 x3).2.2.1) = scaleV x1 := by
  have hz : (![0, 0] : Fin S256x128.rank → ℕ) = fun _ => 0 := funext fun a => by
    match a with
    | ⟨0, _⟩ => rfl
    | ⟨1, _⟩ => rfl
  rw [show scaleV x1 = scaleT (sb c arg2 harg2 x1) from congrArg scaleT (sb_eq_SB c arg2 harg2 x1).symm]
  exact read_whole v g hz inb_S256x128_S256x128_0_0 (scaleT (sb c arg2 harg2 x1)) _
    (runA_scale c i arg1 harg1 arg2 harg2 arg3 harg3 arg4 harg4 arg5 harg5 arg6 harg6 arg7 harg7
      arg8 harg8 arg9 harg9 hc0 x0 x1 x2 x3)

/-- The even columns, as the first point's run names them. -/
theorem readA_even (v : View sig .tc .vmem S256x2048 .bf16) (g : v.ty.Contents (Elt F)) :
    v.read (Elt F) (v.writes (Elt F) g (runA c i arg1 harg1 arg2 harg2 arg3 harg3 arg4 harg4 arg5 harg5 arg6 harg6 arg7 harg7
      arg8 harg8 arg9 harg9 hc0 x0 x1 x2 x3).2.2.2.1) = halfV x1 pickE :=
  (read_even c arg2 harg2 x1 v g).1

/-- The odd columns, as the first point's run names them. -/
theorem readA_odd (v : View sig .tc .vmem S256x2048 .bf16) (g : v.ty.Contents (Elt F)) :
    v.read (Elt F) (v.writes (Elt F) g (runA c i arg1 harg1 arg2 harg2 arg3 harg3 arg4 harg4 arg5 harg5 arg6 harg6 arg7 harg7
      arg8 harg8 arg9 harg9 hc0 x0 x1 x2 x3).2.2.2.2.1) = halfV x1 pickO :=
  (read_odd c arg2 harg2 x1 v g).1
end
end

end Cert.Kernel.Tiles

end
-- ==== Proof.LowKData.lean ====
module

public import proofs.«01_k».proof.Proof.LowContents
public import Idealize.ShloMosaic.Lib.Claim

@[expose] public section

/-! The run of the kernel's program: what every buffer holds at every point of the grid, the body's obligation, the
launch, and the frame. The first point stores the codes, the scales and the two scratch halves; the later points leave
them alone, and the pipeline writes codes and scales back after the last. -/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Tiles

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Outputs 5 and 6 are written back once, after the last point -/

/-- Where the buffers of outputs 5 and 6 hold nothing the body stored: before the first point, and after the last. -/
def freshTab : ℕ → Bool := fun n => n == 0 || n == 28
theorem freshTab5_step : ∀ t : Fin cfg0.N,
    freshTab (t.val + 1) = ((cfg0.win 5).flush t || (cfg0.idle 5 (cfg0.grid.coords t) && freshTab t.val)) := by decide +kernel
theorem freshTab6_step : ∀ t : Fin cfg0.N,
    freshTab (t.val + 1) = ((cfg0.win 6).flush t || (cfg0.idle 6 (cfg0.grid.coords t) && freshTab t.val)) := by decide +kernel
theorem notFresh5 (t : Fin cfg0.N) (h : t.val ≠ 0) : cfg0.fresh 5 t.val = false := by
  rw [Pipeline.Cfg.fresh_tab cfg0 5 freshTab rfl freshTab5_step t.val (Nat.le_of_lt t.isLt)]
  have := lt_of_lt_of_eq t.isLt (show cfg0.N = 28 from N_0)
  simp [freshTab]; omega
theorem notFresh6 (t : Fin cfg0.N) (h : t.val ≠ 0) : cfg0.fresh 6 t.val = false := by
  rw [Pipeline.Cfg.fresh_tab cfg0 6 freshTab rfl freshTab6_step t.val (Nat.le_of_lt t.isLt)]
  have := lt_of_lt_of_eq t.isLt (show cfg0.N = 28 from N_0)
  simp [freshTab]; omega

/-- The block of x, the same at every point: all of it. -/
def xAll (c : Dev nD) : Vec F S256x4096 .bf16 := iblk m c 1 ⟨0, lt_of_lt_of_eq (by decide) (show 28 = cfg0.N from N_0.symm)⟩
theorem iblk1 (c : Dev nD) (t : Fin cfg0.N) : iblk m c 1 t = xAll m c := rfl

/-- The block of the product left at point `t`. -/
def yAt (c : Dev nD) (t : Fin cfg0.N) : Vec F S256x1024 .bf16 :=
  yV (gOf (iblk m c 0 t)) (halfV (xAll m c) pickE) (halfV (xAll m c) pickO) (iblk m c 2 t) (iblk m c 3 t)

/-- The invariant before position `n`: before the first point every scratch at anything; afterwards the two scratch
    buffers at the halves of x, and the generator register at some state. -/
def PhiS (c : Dev nD) : (n : ℕ) → sProp 𝕄
  | 0 => Pipeline.ΦA spec0 c
  | _ + 1 => iprop(iprop(owns (c : Thread nD τ) scM0_0 fullShare (halfV (xAll m c) pickE) ∗ owns (c : Thread nD τ) scM0_1 fullShare (halfV (xAll m c) pickO)) ∗ (∃ r, prngReg c r))

theorem PhiS_zero (c : Dev nD) (n : ℕ) (hz : n = 0) : PhiS m c n = Pipeline.ΦA spec0 c := by
  subst hz; rfl
theorem PhiS_succ (c : Dev nD) (n : ℕ) :
    PhiS m c (n + 1) = iprop(iprop(owns (c : Thread nD τ) scM0_0 fullShare (halfV (xAll m c) pickE) ∗ owns (c : Thread nD τ) scM0_1 fullShare (halfV (xAll m c) pickO)) ∗ (∃ r, prngReg c r)) := rfl
theorem PhiS_pos (c : Dev nD) (n : ℕ) (hz : n ≠ 0) :
    PhiS m c n = iprop(iprop(owns (c : Thread nD τ) scM0_0 fullShare (halfV (xAll m c) pickE) ∗ owns (c : Thread nD τ) scM0_1 fullShare (halfV (xAll m c) pickO)) ∗ (∃ r, prngReg c r)) := by
  cases n with
  | zero => exact absurd rfl hz
  | succ n => rfl

/-! ## The pipeline's proof data -/

/-- The proof data: the arrays as the region finds them; after the body at point `t` each input's buffer at its block,
    output 4's at the point's block of the product, outputs 5 and 6 at the codes and the scales. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => yAt m c t
    | ⟨5, _⟩ => codesV (xAll m c)
    | ⟨6, _⟩ => scaleV (xAll m c)
  Φ t := PhiS m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = yAt m c t := by dsimp only [dats]
theorem after0_5 (c : Dev nD) (t : Fin cfg0.N) : (dats m 0 c).after 5 t = codesV (xAll m c) := by dsimp only [dats]
theorem after0_6 (c : Dev nD) (t : Fin cfg0.N) : (dats m 0 c).after 6 t = scaleV (xAll m c) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- After the first point the buffers of outputs 5 and 6 hold what it left. -/
theorem before0_5 (c : Dev nD) (t : Fin cfg0.N) (h : t.val ≠ 0) (d) : (dats m 0 c).before 5 t d = codesV (xAll m c) := by
  rw [Dat.before_out_traj _ 5 rfl (fun _ _ => rfl) (fun t _ _ _ => by rw [after0_5, after0_5]) t.val t rfl d,
    if_neg (by rw [notFresh5 t h]; exact Bool.false_ne_true)]
  dsimp only [dats]
theorem before0_6 (c : Dev nD) (t : Fin cfg0.N) (h : t.val ≠ 0) (d) : (dats m 0 c).before 6 t d = scaleV (xAll m c) := by
  rw [Dat.before_out_traj _ 6 rfl (fun _ _ => rfl) (fun t _ _ _ => by rw [after0_6, after0_6]) t.val t rfl d,
    if_neg (by rw [notFresh6 t h]; exact Bool.false_ne_true)]
  dsimp only [dats]

/-- A window whose buffer the body hands on as it found it, at what the proof data says, is left as stated: at a point
    that stores into it, at a point that does not, and where it is written back. -/
theorem leaves_kept {c : Dev nD} (dat : Dat τ (Elt F) Unit ℕ (UR sig nD τ) ℕ cfg0 c) (w : Fin cfg0.W) (t : Fin cfg0.N)
    (h : ∀ d, dat.before w t d = dat.after w t) (d) :
    owns (c : Thread nD τ) ((cfg0.win w).stage (cfg0.slots t w)) fullShare (dat.before w t d) ⊢ (dat.leavesExact w t : sProp 𝕄) := by
  unfold Dat.leavesExact
  split
  · split
    · iintro H; iexists d; iexact H
    · rw [h d]
  · rw [h d]

/-! ## The body's triples -/

set_option maxHeartbeats 1600000 in
/-- The body at the first point, on any memrefs: what each output and each scratch ends with. -/
theorem tripleA (c : Dev nD) (i : grid0.Coords) (arg1 : Memref sig .tc .smem S1 .f32) (harg1 : arg1.IsWhole)
    (arg2 : Memref sig .tc .vmem S256x4096 .bf16) (harg2 : arg2.IsWhole)
    (arg3 : Memref sig .tc .vmem S1024x2048 .i8) (harg3 : arg3.IsWhole)
    (arg4 : Memref sig .tc .vmem S1024x256 .fp8e4m3) (harg4 : arg4.IsWhole)
    (arg5 : Memref sig .tc .vmem S256x1024 .bf16) (harg5 : arg5.IsWhole)
    (arg6 : Memref sig .tc .vmem S256x4096 .fp8e4m3) (harg6 : arg6.IsWhole)
    (arg7 : Memref sig .tc .vmem S256x128 .f32) (harg7 : arg7.IsWhole)
    (arg8 : Memref sig .tc .vmem S256x2048 .bf16) (harg8 : arg8.IsWhole)
    (arg9 : Memref sig .tc .vmem S256x2048 .bf16) (harg9 : arg9.IsWhole) (hc0 : cond0_0 i)
    (x0 : Vec F S1 .f32) (x1 : Vec F S256x4096 .bf16) (x2 : Vec F S1024x2048 .i8) (x3 : Vec F S1024x256 .fp8e4m3)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
      ∗ (∃ d, owns (c : Thread nD τ) arg5 fullShare d) ∗ (∃ d, owns (c : Thread nD τ) arg6 fullShare d) ∗ (∃ d, owns (c : Thread nD τ) arg7 fullShare d)
      ∗ (∃ d, owns (c : Thread nD τ) arg8 fullShare d) ∗ (∃ d, owns (c : Thread nD τ) arg9 fullShare d)
      ∗ (iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare (yV (gOf x0) (halfV x1 pickE) (halfV x1 pickO) x2 x3)
        ∗ owns (c : Thread nD τ) arg6 fullShare (codesV x1) ∗ owns (c : Thread nD τ) arg7 fullShare (scaleV x1)
        ∗ owns (c : Thread nD τ) arg8 fullShare (halfV x1 pickE) ∗ owns (c : Thread nD τ) arg9 fullShare (halfV x1 pickO)) -∗ K ⟨⟩))
    ⊢ wp frame (wpE (defs₀ (F := F)) Variants.none c none) E (cc0_nvfp4_matmul i arg1 harg1 arg2 harg2 arg3 harg3 arg4 harg4 arg5 harg5 arg6 harg6 arg7 harg7 arg8 harg8 arg9 harg9) K := by
  have hy := readA_y c i arg1 harg1 arg2 harg2 arg3 harg3 arg4 harg4 arg5 harg5 arg6 harg6 arg7 harg7 arg8 harg8 arg9 harg9 x0 x1 x2 x3 hc0 arg5.view
  have hq := readA_codes c i arg1 harg1 arg2 harg2 arg3 harg3 arg4 harg4 arg5 harg5 arg6 harg6 arg7 harg7 arg8 harg8 arg9 harg9 x0 x1 x2 x3 hc0 arg6.view
  have hs := readA_scale c i arg1 harg1 arg2 harg2 arg3 harg3 arg4 harg4 arg5 harg5 arg6 harg6 arg7 harg7 arg8 harg8 arg9 harg9 x0 x1 x2 x3 hc0 arg7.view
  have he := readA_even c i arg1 harg1 arg2 harg2 arg3 harg3 arg4 harg4 arg5 harg5 arg6 harg6 arg7 harg7 arg8 harg8 arg9 harg9 x0 x1 x2 x3 hc0 arg8.view
  have ho := readA_odd c i arg1 harg1 arg2 harg2 arg3 harg3 arg4 harg4 arg5 harg5 arg6 harg6 arg7 harg7 arg8 harg8 arg9 harg9 x0 x1 x2 x3 hc0 arg9.view
  have hw := (runA c i arg1 harg1 arg2 harg2 arg3 harg3 arg4 harg4 arg5 harg5 arg6 harg6 arg7 harg7 arg8 harg8 arg9 harg9 hc0 x0 x1 x2 x3).2.2.2.2.2 E K
  generalize runA c i arg1 harg1 arg2 harg2 arg3 harg3 arg4 harg4 arg5 harg5 arg6 harg6 arg7 harg7 arg8 harg8 arg9 harg9 hc0 x0 x1 x2 x3 = R at hy hq hs he ho hw
  generalize yV (gOf x0) (halfV x1 pickE) (halfV x1 pickO) x2 x3 = Y at hy ⊢
  generalize codesV x1 = Q at hq ⊢
  generalize scaleV x1 = S at hs ⊢
  generalize halfV x1 pickE = He at he ⊢
  generalize halfV x1 pickO = Ho at ho ⊢

  iintro ⟨H0, H1, H2, H3, H4, H5, H6, HS0, HS1, HK⟩
  iapply hw
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  iintro ⟨H0, H1, H2, H3, ⟨%e4, H4⟩, ⟨%e5, H5⟩, ⟨%e6, H6⟩, ⟨%es0, HS0⟩, ⟨%es1, HS1⟩⟩
  iapply HK
  isplitl [H0]; · iexact H0
  isplitl [H1]; · iexact H1
  isplitl [H2]; · iexact H2
  isplitl [H3]; · iexact H3
  isplitl [H4]
  · unfold owns; iexists _; isplitr
    swap; · iexact H4
    ipureintro; exact hy _
  isplitl [H5]
  · unfold owns; iexists _; isplitr
    swap; · iexact H5
    ipureintro; exact hq _
  isplitl [H6]
  · unfold owns; iexists _; isplitr
    swap; · iexact H6
    ipureintro; exact hs _
  isplitl [HS0]
  · unfold owns; iexists _; isplitr
    swap; · iexact HS0
    ipureintro; exact he _
  unfold owns; iexists _; isplitr
  swap; · iexact HS1
  ipureintro; exact ho _

set_option maxHeartbeats 1600000 in
/-- The body at a later point, on any memrefs: what the output ends with, the scratch as found. -/
theorem tripleB (c : Dev nD) (i : grid0.Coords) (arg1 : Memref sig .tc .smem S1 .f32) (harg1 : arg1.IsWhole)
    (arg2 : Memref sig .tc .vmem S256x4096 .bf16) (harg2 : arg2.IsWhole)
    (arg3 : Memref sig .tc .vmem S1024x2048 .i8) (harg3 : arg3.IsWhole)
    (arg4 : Memref sig .tc .vmem S1024x256 .fp8e4m3) (harg4 : arg4.IsWhole)
    (arg5 : Memref sig .tc .vmem S256x1024 .bf16) (harg5 : arg5.IsWhole)
    (arg6 : Memref sig .tc .vmem S256x4096 .fp8e4m3) (harg6 : arg6.IsWhole)
    (arg7 : Memref sig .tc .vmem S256x128 .f32) (harg7 : arg7.IsWhole)
    (arg8 : Memref sig .tc .vmem S256x2048 .bf16) (harg8 : arg8.IsWhole)
    (arg9 : Memref sig .tc .vmem S256x2048 .bf16) (harg9 : arg9.IsWhole) (hc0 : ¬cond0_0 i)
    (x0 : Vec F S1 .f32) (x1 : Vec F S256x4096 .bf16) (x2 : Vec F S1024x2048 .i8) (x3 : Vec F S1024x256 .fp8e4m3)
    (xs0 xs1 : Vec F S256x2048 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
      ∗ (∃ d, owns (c : Thread nD τ) arg5 fullShare d)
      ∗ owns (c : Thread nD τ) arg8 fullShare xs0 ∗ owns (c : Thread nD τ) arg9 fullShare xs1
      ∗ (iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare (yV (gOf x0) xs0 xs1 x2 x3)
        ∗ owns (c : Thread nD τ) arg8 fullShare xs0 ∗ owns (c : Thread nD τ) arg9 fullShare xs1) -∗ K ⟨⟩))
    ⊢ wp frame (wpE (defs₀ (F := F)) Variants.none c none) E (cc0_nvfp4_matmul i arg1 harg1 arg2 harg2 arg3 harg3 arg4 harg4 arg5 harg5 arg6 harg6 arg7 harg7 arg8 harg8 arg9 harg9) K := by
  have hy := readB_y c i arg1 harg1 arg2 harg2 arg3 harg3 arg4 harg4 arg5 harg5 arg6 harg6 arg7 harg7 arg8 harg8 arg9 harg9 x0 x1 x2 x3 xs0 xs1 hc0 arg5.view
  have hw := (runB c i arg1 harg1 arg2 harg2 arg3 harg3 arg4 harg4 arg5 harg5 arg6 harg6 arg7 harg7 arg8 harg8 arg9 harg9 hc0 x0 x1 x2 x3 xs0 xs1).2 E K
  generalize runB c i arg1 harg1 arg2 harg2 arg3 harg3 arg4 harg4 arg5 harg5 arg6 harg6 arg7 harg7 arg8 harg8 arg9 harg9 hc0 x0 x1 x2 x3 xs0 xs1 = R at hy hw
  generalize yV (gOf x0) xs0 xs1 x2 x3 = Y at hy ⊢

  iintro ⟨H0, H1, H2, H3, H4, HS0, HS1, HK⟩
  iapply hw
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  iintro ⟨H0, H1, H2, H3, ⟨%e4, H4⟩, HS0, HS1⟩
  iapply HK
  isplitl [H0]; · iexact H0
  isplitl [H1]; · iexact H1
  isplitl [H2]; · iexact H2
  isplitl [H3]; · iexact H3
  isplitl [H4]
  · unfold owns; iexists _; isplitr
    swap; · iexact H4
    ipureintro; exact hy _
  isplitl [HS0]; · iexact HS0
  iexact HS1

end Cert.Kernel.Gen

end
-- ==== Proof.LowKFrame.lean ====
module

public import proofs.«01_k».proof.Proof.LowKData
public import Idealize.ShloMosaic.Lib.Claim

@[expose] public section

/-! The run of the kernel's program: what every buffer holds at every point of the grid, the body's obligation, the
launch, and the frame. The first point stores the codes, the scales and the two scratch halves; the later points leave
them alone, and the pipeline writes codes and scales back after the last. -/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Tiles

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)
attribute [local irreducible] yV codesV scaleV halfV gOf

set_option maxHeartbeats 1000000 in
/-- The body at any point: the first runs the branch that quantises x; the others find codes and scales where it left
    them and the halves of x in the scratch. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, iblk1]
  rw [show (dats m 0 c).owesAt () t.succ = (dats m 0 c).owesAt () t.castSucc from rfl]
  rw [show (dats m 0 c).Φ t.succ = PhiS m c (t.val + 1) from rfl, PhiS_succ]
  rw [show (dats m 0 c).Φ t.castSucc = PhiS m c t.val from rfl]
  have hN : t.val < 28 := lt_of_lt_of_eq t.isLt (show cfg0.N = 28 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1, iblk1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  by_cases h0 : t.val % 28 = 0
  · have hz : t.val = 0 := by omega
    rw [show (dats m 0 c).leavesExact 5 t = owns (c : Thread nD τ) (ms0_5 t) fullShare ((dats m 0 c).after 5 t) from by
      unfold Dat.leavesExact; rw [liveAt0_5_A t ((hcond0_0 t).mpr h0)], after0_5]
    rw [show (dats m 0 c).leavesExact 6 t = owns (c : Thread nD τ) (ms0_6 t) fullShare ((dats m 0 c).after 6 t) from by
      unfold Dat.leavesExact; rw [liveAt0_6_A t ((hcond0_0 t).mpr h0)], after0_6]
    rw [PhiS_zero m c _ hz, PhiA0_eq]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply (tripleA c (grid0.coords t) _ _ _ _ _ _ _ _ _ _ _ _ _ _ _ _ _ _ ((hcond0_0 t).mpr h0) (iblk m c 0 t) (xAll m c) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]
    · iexact H4
    isplitl [H5]
    · iexact H5
    iexact H6
  · have hz : t.val ≠ 0 := by omega
    rw [PhiS_pos m c _ hz]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply (tripleB c (grid0.coords t) _ _ _ _ _ _ _ _ _ _ (ms0_5 t) (hs0_5 t) (ms0_6 t) (hs0_6 t) _ _ _ _ (fun h => h0 ((hcond0_0 t).mp h)) (iblk m c 0 t) (xAll m c) (iblk m c 2 t) (iblk m c 3 t) (halfV (xAll m c) pickE) (halfV (xAll m c) pickO) Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    iintro ⟨H0, H1, H2, H3, H4, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]
    · iexact H4
    isplitl [H5]
    · iapply (leaves_kept (dats m 0 c) 5 t (fun d => (before0_5 m c t hz d).trans (after0_5 m c t).symm) d5)
      iexact H5
    iapply (leaves_kept (dats m 0 c) 6 t (fun d => (before0_6 m c t hz d).trans (after0_6 m c t).symm) d6)
    iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 from rfl, PhiS_zero m c 0 rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val from rfl, PhiS_pos m c _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 28 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: the argument arrays end unchanged and every semaphore counter at zero, whatever the values are. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Gen

end
-- ==== Proof.Runs.lean ====
module

public import proofs.«01_k».proof.Proof.Gen.KernelIdeal.Frame
public import proofs.«01_k».proof.Proof.Gen.KernelIdeal.Skeleton
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! What the two runs of the kernel's body are stated over: the body's branch condition in closed form over the
points, where its windows are idle, the staging and scratch memrefs. -/

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 28 = 0 :=
  (fun t => by
    have ht : t.val < 28 := Nat.lt_of_lt_of_eq t.isLt N_0
    have e0 : (grid0.coords t 0).val = t.val / 1 % 28 := Pipeline.Grid.coords_val t 0 (by decide) rfl
    simp only [cond0_0, k0_cond1, e0]
    word_cmp
   : ∀ t : Fin grid0.N, cond0_0 (grid0.coords t) ↔ t.val % 28 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an output stored at every point, under no condition). -/
theorem liveAt0_4 : ∀ t : Fin cfg0.N, cfg0.idle 4 (grid0.coords t) = false := fun _ => rfl
/-- At the first point outputs 5 and 6 are stored into. -/
theorem liveAt0_5_A : ∀ t : Fin cfg0.N, cond0_0 (grid0.coords t) → cfg0.idle 5 (grid0.coords t) = false := by decide +kernel
theorem liveAt0_6_A : ∀ t : Fin cfg0.N, cond0_0 (grid0.coords t) → cfg0.idle 6 (grid0.coords t) = false := by decide +kernel

/-! ## The kernel body on any staging memrefs: a subtype the run finds -/

/-- One staging buffer of output window 4, through which its contents are stated (`View.read_writes_of_cover`: the
    choice does not matter). -/
abbrev VO0_4 : View sig .tc .vmem S256x1024 .bf16 := (Memref.whole cc0_stg4_0 : Memref sig .tc .vmem S256x1024 .bf16).view
/-- One staging buffer of output window 5, through which its contents are stated (`View.read_writes_of_cover`: the
    choice does not matter). -/
abbrev VO0_5 : View sig .tc .vmem S256x4096 .fp8e4m3 := (Memref.whole cc0_stg5_0 : Memref sig .tc .vmem S256x4096 .fp8e4m3).view
/-- One staging buffer of output window 6, through which its contents are stated (`View.read_writes_of_cover`: the
    choice does not matter). -/
abbrev VO0_6 : View sig .tc .vmem S256x128 .f32 := (Memref.whole cc0_stg6_0 : Memref sig .tc .vmem S256x128 .f32).view
/-- Each window's current staging memref at point `t`, spelled as the pipeline passes it (`bodyAt0`), and its wholeness. -/
abbrev ms0_0 (t : Fin cfg0.N) : Memref sig .tc .smem S1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x4096 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x2048 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x256 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x4096 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x128 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S256x2048 .bf16 := Memref.whole cc0_scratch0
abbrev scM0_1 : Memref sig .tc .vmem S256x2048 .bf16 := Memref.whole cc0_scratch1
/-- The scratch `arg8` the kernel carries between points, as a view: what it holds is stated through it. -/
abbrev VS0_0 : View sig .tc .vmem S256x2048 .bf16 := scM0_0.view
/-- The scratch `arg9` the kernel carries between points, as a view: what it holds is stated through it. -/
abbrev VS0_1 : View sig .tc .vmem S256x2048 .bf16 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Gen

end
-- ==== Proof.RunA.lean ====
module

public import proofs.«01_k».proof.Proof.Runs

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! The body's run at the first point: it quantises the activations into `codes`, `scale` and the scratch, then
multiplies as at every other point. -/

set_option sl_exec.resultNames true in
set_option maxHeartbeats 4000000 in
/-- What the body's stores leave in each output and in the scratch at the first point, as pieces (last first), with the
    proof that the body runs to the continuation holding the inputs as they were and those pieces written. -/
noncomputable def runA (c : Dev nD) (i : grid0.Coords)
    (arg1 : Memref sig .tc .smem S1 .f32) (harg1 : arg1.IsWhole)
    (arg2 : Memref sig .tc .vmem S256x4096 .bf16) (harg2 : arg2.IsWhole)
    (arg3 : Memref sig .tc .vmem S1024x2048 .i8) (harg3 : arg3.IsWhole)
    (arg4 : Memref sig .tc .vmem S1024x256 .fp8e4m3) (harg4 : arg4.IsWhole)
    (arg5 : Memref sig .tc .vmem S256x1024 .bf16) (harg5 : arg5.IsWhole)
    (arg6 : Memref sig .tc .vmem S256x4096 .fp8e4m3) (harg6 : arg6.IsWhole)
    (arg7 : Memref sig .tc .vmem S256x128 .f32) (harg7 : arg7.IsWhole)
    (arg8 : Memref sig .tc .vmem S256x2048 .bf16) (harg8 : arg8.IsWhole)
    (arg9 : Memref sig .tc .vmem S256x2048 .bf16) (harg9 : arg9.IsWhole)
    (hc0 : cond0_0 i)
    (x0 : Vec F S1 .f32) (x1 : Vec F S256x4096 .bf16) (x2 : Vec F S1024x2048 .i8) (x3 : Vec F S1024x256 .fp8e4m3) :
    Σ' (L4 : List (View.Piece (Elt F) S256x1024 .bf16)) (L5 : List (View.Piece (Elt F) S256x4096 .fp8e4m3))
      (L6 : List (View.Piece (Elt F) S256x128 .f32)) (LS0 : List (View.Piece (Elt F) S256x2048 .bf16)),
      { LS1 : List (View.Piece (Elt F) S256x2048 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0_nvfp4_matmul i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc0_nvfp4_matmul_eq_skeleton]; unfold cc0_nvfp4_matmul_skel
    simp only [k0_part151_eq_skeleton, k0_part54_eq_skeleton, k0_part53_eq_skeleton, k0_part1_eq_skeleton, k0_part2_eq_skeleton,
      k0_part3_eq_skeleton, k0_part4_eq_skeleton, k0_part5_eq_skeleton, k0_part6_eq_skeleton, k0_part7_eq_skeleton,
      k0_part8_eq_skeleton, k0_part9_eq_skeleton, k0_part10_eq_skeleton, k0_part11_eq_skeleton,
      k0_part12_eq_skeleton, k0_part13_eq_skeleton, k0_part14_eq_skeleton, k0_part15_eq_skeleton,
      k0_part16_eq_skeleton, k0_part17_eq_skeleton, k0_part18_eq_skeleton, k0_part19_eq_skeleton,
      k0_part20_eq_skeleton, k0_part21_eq_skeleton, k0_part22_eq_skeleton, k0_part23_eq_skeleton,
      k0_part24_eq_skeleton, k0_part25_eq_skeleton, k0_part26_eq_skeleton, k0_part27_eq_skeleton,
      k0_part28_eq_skeleton, k0_part29_eq_skeleton, k0_part30_eq_skeleton, k0_part31_eq_skeleton,
      k0_part32_eq_skeleton, k0_part33_eq_skeleton, k0_part34_eq_skeleton, k0_part35_eq_skeleton,
      k0_part36_eq_skeleton, k0_part37_eq_skeleton, k0_part38_eq_skeleton, k0_part39_eq_skeleton,
      k0_part40_eq_skeleton, k0_part41_eq_skeleton, k0_part42_eq_skeleton, k0_part43_eq_skeleton,
      k0_part44_eq_skeleton, k0_part45_eq_skeleton, k0_part46_eq_skeleton, k0_part47_eq_skeleton,
      k0_part48_eq_skeleton, k0_part49_eq_skeleton, k0_part50_eq_skeleton, k0_part51_eq_skeleton,
      k0_part52_eq_skeleton, k0_part55_eq_skeleton, k0_part56_eq_skeleton, k0_part57_eq_skeleton,
      k0_part58_eq_skeleton, k0_part59_eq_skeleton, k0_part60_eq_skeleton, k0_part61_eq_skeleton,
      k0_part62_eq_skeleton, k0_part63_eq_skeleton, k0_part64_eq_skeleton, k0_part65_eq_skeleton,
      k0_part66_eq_skeleton, k0_part67_eq_skeleton, k0_part68_eq_skeleton, k0_part69_eq_skeleton,
      k0_part70_eq_skeleton, k0_part71_eq_skeleton, k0_part72_eq_skeleton, k0_part73_eq_skeleton,
      k0_part74_eq_skeleton, k0_part75_eq_skeleton, k0_part76_eq_skeleton, k0_part77_eq_skeleton,
      k0_part78_eq_skeleton, k0_part79_eq_skeleton, k0_part80_eq_skeleton, k0_part81_eq_skeleton,
      k0_part82_eq_skeleton, k0_part83_eq_skeleton, k0_part84_eq_skeleton, k0_part85_eq_skeleton,
      k0_part86_eq_skeleton, k0_part87_eq_skeleton, k0_part88_eq_skeleton, k0_part89_eq_skeleton,
      k0_part90_eq_skeleton, k0_part91_eq_skeleton, k0_part92_eq_skeleton, k0_part93_eq_skeleton,
      k0_part94_eq_skeleton, k0_part95_eq_skeleton, k0_part96_eq_skeleton, k0_part97_eq_skeleton,
      k0_part98_eq_skeleton, k0_part99_eq_skeleton, k0_part100_eq_skeleton, k0_part101_eq_skeleton,
      k0_part102_eq_skeleton, k0_part103_eq_skeleton, k0_part104_eq_skeleton, k0_part105_eq_skeleton,
      k0_part106_eq_skeleton, k0_part107_eq_skeleton, k0_part108_eq_skeleton, k0_part109_eq_skeleton,
      k0_part110_eq_skeleton, k0_part111_eq_skeleton, k0_part112_eq_skeleton, k0_part113_eq_skeleton,
      k0_part152_eq_skeleton, k0_part114_eq_skeleton, k0_part115_eq_skeleton, k0_part116_eq_skeleton,
      k0_part117_eq_skeleton, k0_part118_eq_skeleton, k0_part119_eq_skeleton, k0_part120_eq_skeleton,
      k0_part121_eq_skeleton, k0_part122_eq_skeleton, k0_part123_eq_skeleton, k0_part124_eq_skeleton,
      k0_part125_eq_skeleton, k0_part126_eq_skeleton, k0_part127_eq_skeleton, k0_part128_eq_skeleton,
      k0_part129_eq_skeleton, k0_part130_eq_skeleton, k0_part131_eq_skeleton, k0_part132_eq_skeleton,
      k0_part133_eq_skeleton, k0_part134_eq_skeleton, k0_part135_eq_skeleton, k0_part136_eq_skeleton,
      k0_part137_eq_skeleton, k0_part138_eq_skeleton, k0_part139_eq_skeleton, k0_part140_eq_skeleton,
      k0_part141_eq_skeleton, k0_part142_eq_skeleton, k0_part143_eq_skeleton, k0_part144_eq_skeleton,
      k0_part145_eq_skeleton, k0_part146_eq_skeleton, k0_part147_eq_skeleton, k0_part148_eq_skeleton,
      k0_part149_eq_skeleton, k0_part150_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, Hk⟩
    obtain rfl := harg1.eq_unread hf0; obtain rfl := harg2.eq_unread hf1; obtain rfl := harg3.eq_unread hf2
    obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    iexists _; iexact HS1

end Cert.KernelIdeal.Gen

end
-- ==== Proof.RunB.lean ====
module

public import proofs.«01_k».proof.Proof.Runs

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! The body's run at a point other than the first: the quantised activations are read from the scratch. -/

set_option sl_exec.resultNames true in
set_option maxHeartbeats 2000000 in
/-- What the body's stores leave in the product's block at a point other than the first, as pieces (last first), with the
    proof that the body runs to the continuation holding the inputs and the scratch as they were and that block's pieces
    written. The outputs `codes` and `scale` are not touched. -/
noncomputable def runB (c : Dev nD) (i : grid0.Coords)
    (arg1 : Memref sig .tc .smem S1 .f32) (harg1 : arg1.IsWhole)
    (arg2 : Memref sig .tc .vmem S256x4096 .bf16) (harg2 : arg2.IsWhole)
    (arg3 : Memref sig .tc .vmem S1024x2048 .i8) (harg3 : arg3.IsWhole)
    (arg4 : Memref sig .tc .vmem S1024x256 .fp8e4m3) (harg4 : arg4.IsWhole)
    (arg5 : Memref sig .tc .vmem S256x1024 .bf16) (harg5 : arg5.IsWhole)
    (arg6 : Memref sig .tc .vmem S256x4096 .fp8e4m3) (harg6 : arg6.IsWhole)
    (arg7 : Memref sig .tc .vmem S256x128 .f32) (harg7 : arg7.IsWhole)
    (arg8 : Memref sig .tc .vmem S256x2048 .bf16) (harg8 : arg8.IsWhole)
    (arg9 : Memref sig .tc .vmem S256x2048 .bf16) (harg9 : arg9.IsWhole)
    (hc0 : ¬cond0_0 i)
    (x0 : Vec F S1 .f32) (x1 : Vec F S256x4096 .bf16) (x2 : Vec F S1024x2048 .i8) (x3 : Vec F S1024x256 .fp8e4m3)
    (xs0 : Vec F S256x2048 .bf16) (xs1 : Vec F S256x2048 .bf16) :
    { L4 : List (View.Piece (Elt F) S256x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg8 fullShare xs0 ∗ owns (c : Thread nD τ) arg9 fullShare xs1) -∗ K ⟨⟩))
          ⊢ wp frame (wpE (defs₀ (F := F)) Variants.none c none) E (cc0_nvfp4_matmul i arg1 harg1 arg2 harg2 arg3 harg3 arg4 harg4 arg5 harg5 arg6 harg6 arg7 harg7 arg8 harg8 arg9 harg9) K } := by
  refine ⟨?_, fun E K => ?run⟩
  case run =>
    simp only [cc0_nvfp4_matmul_eq_skeleton]; unfold cc0_nvfp4_matmul_skel
    simp only [k0_part151_eq_skeleton, k0_part54_eq_skeleton, k0_part55_eq_skeleton, k0_part56_eq_skeleton,
      k0_part57_eq_skeleton, k0_part58_eq_skeleton, k0_part59_eq_skeleton, k0_part60_eq_skeleton,
      k0_part61_eq_skeleton, k0_part62_eq_skeleton, k0_part63_eq_skeleton, k0_part64_eq_skeleton,
      k0_part65_eq_skeleton, k0_part66_eq_skeleton, k0_part67_eq_skeleton, k0_part68_eq_skeleton,
      k0_part69_eq_skeleton, k0_part70_eq_skeleton, k0_part71_eq_skeleton, k0_part72_eq_skeleton,
      k0_part73_eq_skeleton, k0_part74_eq_skeleton, k0_part75_eq_skeleton, k0_part76_eq_skeleton,
      k0_part77_eq_skeleton, k0_part78_eq_skeleton, k0_part79_eq_skeleton, k0_part80_eq_skeleton,
      k0_part81_eq_skeleton, k0_part82_eq_skeleton, k0_part83_eq_skeleton, k0_part84_eq_skeleton,
      k0_part85_eq_skeleton, k0_part86_eq_skeleton, k0_part87_eq_skeleton, k0_part88_eq_skeleton,
      k0_part89_eq_skeleton, k0_part90_eq_skeleton, k0_part91_eq_skeleton, k0_part92_eq_skeleton,
      k0_part93_eq_skeleton, k0_part94_eq_skeleton, k0_part95_eq_skeleton, k0_part96_eq_skeleton,
      k0_part97_eq_skeleton, k0_part98_eq_skeleton, k0_part99_eq_skeleton, k0_part100_eq_skeleton,
      k0_part101_eq_skeleton, k0_part102_eq_skeleton, k0_part103_eq_skeleton, k0_part104_eq_skeleton,
      k0_part105_eq_skeleton, k0_part106_eq_skeleton, k0_part107_eq_skeleton, k0_part108_eq_skeleton,
      k0_part109_eq_skeleton, k0_part110_eq_skeleton, k0_part111_eq_skeleton, k0_part112_eq_skeleton,
      k0_part113_eq_skeleton, k0_part152_eq_skeleton, k0_part114_eq_skeleton, k0_part115_eq_skeleton,
      k0_part116_eq_skeleton, k0_part117_eq_skeleton, k0_part118_eq_skeleton, k0_part119_eq_skeleton,
      k0_part120_eq_skeleton, k0_part121_eq_skeleton, k0_part122_eq_skeleton, k0_part123_eq_skeleton,
      k0_part124_eq_skeleton, k0_part125_eq_skeleton, k0_part126_eq_skeleton, k0_part127_eq_skeleton,
      k0_part128_eq_skeleton, k0_part129_eq_skeleton, k0_part130_eq_skeleton, k0_part131_eq_skeleton,
      k0_part132_eq_skeleton, k0_part133_eq_skeleton, k0_part134_eq_skeleton, k0_part135_eq_skeleton,
      k0_part136_eq_skeleton, k0_part137_eq_skeleton, k0_part138_eq_skeleton, k0_part139_eq_skeleton,
      k0_part140_eq_skeleton, k0_part141_eq_skeleton, k0_part142_eq_skeleton, k0_part143_eq_skeleton,
      k0_part144_eq_skeleton, k0_part145_eq_skeleton, k0_part146_eq_skeleton, k0_part147_eq_skeleton,
      k0_part148_eq_skeleton, k0_part149_eq_skeleton, k0_part150_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hf3; obtain rfl := harg8.eq_unread hfs0; obtain rfl := harg9.eq_unread hfs1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [HS0]
    · iexists _; isplitr; · ipureintro; exact harg8.read_unread _
      iexact HS0
    iexists _; isplitr; · ipureintro; exact harg9.read_unread _
    iexact HS1

end Cert.KernelIdeal.Gen

end
-- ==== Proof.Tiles.lean ====
module

public import proofs.«01_k».proof.Proof.Gen.KernelIdeal.Skeleton

@[expose] public section

/-! The kernel's computation on one 128-lane tile, each piece stated once for every tile: the kernel repeats it with
other offsets. A tile is 256 rows of 128 lanes; the activations are 32 tiles, a 256-row block of the weights 16 tiles. -/

noncomputable section

namespace Cert.KernelIdeal.Tiles

open Idealize.ShloMosaic Idealize.ShloMosaic.TcCoe Cert.KernelIdeal.Gen

variable {F : FTy → Type} [FloatOps F]

/-- The number of the lane. -/
abbrev lane : IVec S256x128 32 := iota .tc S256x128 32 [1] iota_S256x128_d1_w32

/-- A tile with lane `idx` of the row in each place (a negative index counts from the end). -/
def gather {α : Type} (v : S256x128.Idx → α) (idx : IVec S256x128 32) : S256x128.Idx → α :=
  dynamicGather 1 v (shapeCast S256x128 (shapeCast S256x128x1
    (select (cmpi .slt idx (broadcast S256x128 0#32)) (addi idx (broadcast S256x128 128#32)) idx)
    shapeCasts_S256x128_S256x128x1) shapeCasts_S256x128x1_S256x128)

/-- The same for bfloat16, which goes through float32. -/
def gatherB (v : FVec F S256x128 .bf16) (idx : IVec S256x128 32) : FVec F S256x128 .bf16 :=
  truncf .bf16 (gather (extf .f32 v bitsLt_bf16_f32) idx) bitsLt_bf16_f32

/-! ## The largest magnitude of each group -/

/-- The magnitudes of a tile of the activations. -/
def absT (v : Vec F S256x128 .bf16) : FVec F S256x128 .bf16 :=
  absf (shapeCast S256x128 v shapeCasts_S256x128_S256x128)

/-- The mask of the lanes whose number has bit `d`. -/
def upper (d : BitVec 32) : IVec S256x128 1 :=
  cmpi .ne (andi lane (broadcast S256x128 d)) (broadcast S256x128 0#32)

/-- One step of the butterfly: two tiles become one whose lane holds the larger of its own and of lane `l ^ d`'s
    value, the first tile's where bit `d` of the lane is clear and the second's where it is set. -/
def merge (d : BitVec 32) (a b : FVec F S256x128 .bf16) : FVec F S256x128 .bf16 :=
  maximumf (select (upper d) b a) (gatherB (select (upper d) a b) (xori lane (broadcast S256x128 d)))

/-- A level of the butterfly: `2 * n` tiles become `n`. -/
def level (n : ℕ) (a : Fin (n + n) → FVec F S256x128 .bf16) : Fin n → FVec F S256x128 .bf16 :=
  fun t => merge (BitVec.ofNat 32 n) (a ⟨t.val, by omega⟩) (a ⟨t.val + n, by omega⟩)

/-- The butterfly of 32 tiles: lane `l` of the result holds group `l / 32` of tile `l % 32`. -/
def groupMax (X : Fin 32 → Vec F S256x128 .bf16) : FVec F S256x128 .bf16 :=
  level 1 (level 2 (level 4 (level 8 (level 16 fun t => absT (X t))))) 0

/-! ## The scale of each group -/

/-- The group maximum over 448. -/
def ratio (a : FVec F S256x128 .bf16) : FVec F S256x128 .f32 :=
  mulf (extf .f32 a bitsLt_bf16_f32) (broadcast S256x128 (Scalar.ofBits .f32 0x3B124925#32 : F .f32))

/-- One step of the search for the exponent field. -/
def expStep (p : FVec F S256x128 .f32) (b : BitVec 32) (e : IVec S256x128 32) : IVec S256x128 32 :=
  select (cmpf .oge p (bitcastToFloat .f32 (shli (addi e (broadcast S256x128 b)) (broadcast S256x128 23#32))))
    (addi e (broadcast S256x128 b)) e

/-- The exponent field of a non-negative value, found from the top bit down. -/
def expField (p : FVec F S256x128 .f32) : IVec S256x128 32 :=
  expStep p 1#32 (expStep p 2#32 (expStep p 4#32 (expStep p 8#32 (expStep p 16#32 (expStep p 32#32
    (expStep p 64#32 (expStep p 128#32 (broadcast S256x128 0#32))))))))

/-- The bits of the scale. -/
def scaleBits (p : FVec F S256x128 .f32) : IVec S256x128 32 :=
  select (ori (cmpi .eq (shli (expField p) (broadcast S256x128 23#32)) (broadcast S256x128 0#32))
      (cmpi .eq (shli (expField p) (broadcast S256x128 23#32)) (broadcast S256x128 2139095040#32)))
    (broadcast S256x128 1065353216#32)
    (addi (shli (expField p) (broadcast S256x128 23#32)) (broadcast S256x128 8388608#32))

/-- The bits of every group's scale, from the activations' tiles. -/
def sbits (X : Fin 32 → Vec F S256x128 .bf16) : IVec S256x128 32 := scaleBits (ratio (groupMax X))

/-- The lane that holds group `l`'s scale. -/
def scaleIdx : IVec S256x128 32 :=
  addi (muli (andi lane (broadcast S256x128 3#32)) (broadcast S256x128 32#32)) (shrsi lane (broadcast S256x128 2#32))

/-- The scales in the order of the groups. -/
def scaleT (s : IVec S256x128 32) : FVec F S256x128 .f32 := gather (bitcastToFloat .f32 s) scaleIdx

/-! ## The codes and the quantised activations -/

/-- The scale's bits for every element of tile `u`. -/
def tileBits (s : IVec S256x128 32) (u : BitVec 32) : IVec S256x128 32 :=
  gather s (addi (andi lane (broadcast S256x128 96#32)) (broadcast S256x128 u))

/-- A bfloat16 constant of the clip. -/
abbrev clipC (b : BitVec 32) : FVec F S256x128 .bf16 :=
  broadcast S256x128 (Scalar.truncf .bf16 bitsLt_bf16_f32 (Scalar.ofBits .f32 b : F .f32))

/-- The codes of a tile: the values over their scales, clipped and rounded. -/
def codesT (sb : IVec S256x128 32) (x : Vec F S256x128 .bf16) : FVec F S256x128 .fp8e4m3 :=
  truncf .fp8e4m3 (minimumf (clipC 0x43E00000#32) (maximumf (clipC 0xC3E00000#32)
    (mulf (shapeCast S256x128 x shapeCasts_S256x128_S256x128)
      (truncf .bf16 (bitcastToFloat .f32 (subi (broadcast S256x128 2130706432#32) sb) : FVec F S256x128 .f32)
        bitsLt_bf16_f32)))) bitsLt_fp8e4m3_bf16

/-- A tile of the quantised activations: the codes times their scales. -/
def xsT (sb : IVec S256x128 32) (x : Vec F S256x128 .bf16) : FVec F S256x128 .bf16 :=
  mulf (extf .bf16 (codesT sb x) bitsLt_fp8e4m3_bf16)
    (truncf .bf16 (bitcastToFloat .f32 sb : FVec F S256x128 .f32) bitsLt_bf16_f32)

/-- The lanes a half of a tile of the even columns comes from. -/
def pickE : IVec S256x128 32 := andi (muli lane (broadcast S256x128 2#32)) (broadcast S256x128 127#32)
/-- The lanes a half of a tile of the odd columns comes from. -/
def pickO : IVec S256x128 32 := addi pickE (broadcast S256x128 1#32)

/-- Two neighbouring tiles' columns at `idx`, as one tile. -/
def pairT (idx : IVec S256x128 32) (a b : FVec F S256x128 .bf16) : FVec F S256x128 .bf16 :=
  shapeCast S256x128 (select (cmpi .slt lane (broadcast S256x128 64#32)) (gatherB a idx) (gatherB b idx))
    shapeCasts_S256x128_S256x128

/-! ## The weights -/

/-- Four rows of bytes as one row of words. -/
abbrev words (W : Vec F S256x128 .i8) : IVec S64x128 32 := bitcast S64x128 32 W bitcasts_S256x128_w8_S64x128_w32

/-- The low nibbles as the bits of a float8. -/
def loBits (W : Vec F S256x128 .i8) : IVec S64x128 32 :=
  ori (andi (shli (words W) (broadcast S64x128 2#32)) (broadcast S64x128 471604252#32))
    (andi (shli (words W) (broadcast S64x128 4#32)) (broadcast S64x128 2155905152#32))

/-- The high nibbles as the bits of a float8. -/
def hiBits (W : Vec F S256x128 .i8) : IVec S64x128 32 :=
  ori (andi (shrui (words W) (broadcast S64x128 2#32)) (broadcast S64x128 471604252#32))
    (andi (words W) (broadcast S64x128 2155905152#32))

/-- The sign of the divisor 8. -/
def sign8 : BitVec 32 :=
  Scalar.subi (Scalar.extui (Scalar.cmpi .sgt 8#32 0#32)) (Scalar.extui (Scalar.cmpi .slt 8#32 0#32))

/-- The lane over 8, rounded down. -/
def lane8 : IVec S256x128 32 :=
  select (andi (cmpi .ne (subi (extui 32 (cmpi .sgt lane (broadcast S256x128 0#32)) natLt_1_32)
        (extui 32 (cmpi .slt lane (broadcast S256x128 0#32)) natLt_1_32)) (broadcast S256x128 sign8))
      (cmpi .ne (remsi lane (broadcast S256x128 8#32)) (broadcast S256x128 0#32)))
    (subi (divsi lane (broadcast S256x128 8#32)) (broadcast S256x128 1#32))
    (divsi lane (broadcast S256x128 8#32))

/-- The block scales of a tile's lanes, `k` blocks into the tile of scales. -/
def blkScale (S : Vec F S256x128 .fp8e4m3) (k : BitVec 32) : FVec F S256x128 .bf16 :=
  extf .bf16 (truncf .fp8e4m3 (gather (extf .f32 S bitsLt_fp8e4m3_f32) (addi lane8 (broadcast S256x128 k)))
    bitsLt_fp8e4m3_f32) bitsLt_fp8e4m3_bf16

/-- A tile of weights from the bits of its float8 values and its block scales. -/
def deq (b : IVec S64x128 32) (s : FVec F S256x128 .bf16) : FVec F S256x128 .bf16 :=
  mulf (extf .bf16 (bitcastToFloat .fp8e4m3 (bitcast S256x128 8 b bitcasts_S64x128_w32_S256x128_w8) : FVec F S256x128 .fp8e4m3)
    bitsLt_fp8e4m3_bf16) s

/-! ## The product -/

/-- The product of 256 columns of activations with two tiles of weights. -/
def dot2 (x : Vec F S256x256 .bf16) (a b : FVec F S256x128 .bf16) : FVec F S256x256 .f32 :=
  matmul dot_S256x256_S256x256_S256x256_1_1_0_0_n_n none x
    (concatenate S256x256 1 [⟨S256x128, a⟩, ⟨S256x128, b⟩] concatenates_S256x128_S256x128_S256x256_d1)
    (constant S256x256 .f32 0x00000000#32)

/-- The even columns' product with two tiles. -/
def dotLo (x : Vec F S256x256 .bf16) (W0 W1 : Vec F S256x128 .i8) (S : Vec F S256x128 .fp8e4m3) (k0 k1 : BitVec 32) :
    FVec F S256x256 .f32 := dot2 x (deq (loBits W0) (blkScale S k0)) (deq (loBits W1) (blkScale S k1))

/-- The odd columns' product with two tiles. -/
def dotHi (x : Vec F S256x256 .bf16) (W0 W1 : Vec F S256x128 .i8) (S : Vec F S256x128 .fp8e4m3) (k0 k1 : BitVec 32) :
    FVec F S256x256 .f32 := dot2 x (deq (hiBits W0) (blkScale S k0)) (deq (hiBits W1) (blkScale S k1))

/-- The number of blocks before tile `t`, in its tile of scales. -/
abbrev blk0 (t : ℕ) : BitVec 32 := BitVec.ofNat 32 (16 * (t % 8))

/-- The product with the low nibbles of tiles `2 * k` and `2 * k + 1`. -/
def chunkE (E : Fin 8 → Vec F S256x256 .bf16) (W : Fin 16 → Vec F S256x128 .i8) (S : Fin 2 → Vec F S256x128 .fp8e4m3)
    (k : Fin 8) : FVec F S256x256 .f32 :=
  dotLo (E k) (W ⟨2 * k.val, by omega⟩) (W ⟨2 * k.val + 1, by omega⟩) (S ⟨k.val / 4, by omega⟩)
    (blk0 (2 * k.val)) (blk0 (2 * k.val + 1))

/-- The product with the high nibbles of tiles `2 * k` and `2 * k + 1`. -/
def chunkO (O : Fin 8 → Vec F S256x256 .bf16) (W : Fin 16 → Vec F S256x128 .i8) (S : Fin 2 → Vec F S256x128 .fp8e4m3)
    (k : Fin 8) : FVec F S256x256 .f32 :=
  dotHi (O k) (W ⟨2 * k.val, by omega⟩) (W ⟨2 * k.val + 1, by omega⟩) (S ⟨k.val / 4, by omega⟩)
    (blk0 (2 * k.val)) (blk0 (2 * k.val + 1))

/-- The sum of the products up to chunk `k`. -/
def accTo (E O : Fin 8 → Vec F S256x256 .bf16) (W : Fin 16 → Vec F S256x128 .i8) (S : Fin 2 → Vec F S256x128 .fp8e4m3) :
    (k : ℕ) → k < 8 → FVec F S256x256 .f32
  | 0, h => addf (chunkE E W S ⟨0, h⟩) (chunkO O W S ⟨0, h⟩)
  | k + 1, h => addf (addf (accTo E O W S k (by omega)) (chunkE E W S ⟨k + 1, h⟩)) (chunkO O W S ⟨k + 1, h⟩)

/-- A 256-column block of the result. -/
def yBlock (g : Elt F .f32) (E O : Fin 8 → Vec F S256x256 .bf16) (W : Fin 16 → Vec F S256x128 .i8)
    (S : Fin 2 → Vec F S256x128 .fp8e4m3) : FVec F S256x256 .bf16 :=
  truncf .bf16 (mulf (mulf (accTo E O W S 7 (by omega))
    (broadcast S256x256 (Scalar.ofBits .f32 0x42800000#32 : F .f32))) (broadcast S256x256 g)) bitsLt_bf16_f32

end Cert.KernelIdeal.Tiles

end
-- ==== Proof.PiecesB.lean ====
module

public import proofs.«01_k».proof.Proof.RunB
public import proofs.«01_k».proof.Proof.Tiles

@[expose] public section

/-! What the body stores at a point other than the first, in the words of `Tiles`. -/

set_option maxRecDepth 16384

noncomputable section

namespace Cert.KernelIdeal.Tiles

open Idealize.ShloMosaic Idealize.ShloMosaic.TcCoe Cert.KernelIdeal.Gen

variable {F : FTy → Type} [FloatOps F]

theorem inbW (n : Fin 4) (t : Fin 16) : ∀ a, (![256 * n.val, 128 * t.val] : Fin 2 → ℕ) a + S256x128.size a ≤ S1024x2048.size a := by
  intro a; match a with
  | ⟨0, _⟩ => show 256 * n.val + 256 ≤ 1024; omega
  | ⟨1, _⟩ => show 128 * t.val + 128 ≤ 2048; omega
theorem inbS (n : Fin 4) (t : Fin 2) : ∀ a, (![256 * n.val, 128 * t.val] : Fin 2 → ℕ) a + S256x128.size a ≤ S1024x256.size a := by
  intro a; match a with
  | ⟨0, _⟩ => show 256 * n.val + 256 ≤ 1024; omega
  | ⟨1, _⟩ => show 128 * t.val + 128 ≤ 256; omega
theorem inbE (k : Fin 8) : ∀ a, (![0, 256 * k.val] : Fin 2 → ℕ) a + S256x256.size a ≤ S256x2048.size a := by
  intro a; match a with
  | ⟨0, _⟩ => show 0 + 256 ≤ 256; omega
  | ⟨1, _⟩ => show 256 * k.val + 256 ≤ 2048; omega
theorem inbX (k : Fin 32) : ∀ a, (![0, 128 * k.val] : Fin 2 → ℕ) a + S256x128.size a ≤ S256x4096.size a := by
  intro a; match a with
  | ⟨0, _⟩ => show 0 + 256 ≤ 256; omega
  | ⟨1, _⟩ => show 128 * k.val + 128 ≤ 4096; omega
theorem inbY (n : Fin 4) : ∀ a, (![0, 256 * n.val] : Fin 2 → ℕ) a + S256x256.size a ≤ S256x1024.size a := by
  intro a; match a with
  | ⟨0, _⟩ => show 0 + 256 ≤ 256; omega
  | ⟨1, _⟩ => show 256 * n.val + 256 ≤ 1024; omega
theorem inbH (t : Fin 16) : ∀ a, (![0, 128 * t.val] : Fin 2 → ℕ) a + S256x128.size a ≤ S256x2048.size a := by
  intro a; match a with
  | ⟨0, _⟩ => show 0 + 256 ≤ 256; omega
  | ⟨1, _⟩ => show 128 * t.val + 128 ≤ 2048; omega

/-- The tile of weights at row block `n`, tile `t` of a point's block. -/
abbrev rW (n : Fin 4) (t : Fin 16) : Rect S1024x2048 := Rect.unit ![256 * n.val, 128 * t.val] S256x128.size (inbW n t)
abbrev rS (n : Fin 4) (t : Fin 2) : Rect S1024x256 := Rect.unit ![256 * n.val, 128 * t.val] S256x128.size (inbS n t)
abbrev rE (k : Fin 8) : Rect S256x2048 := Rect.unit ![0, 256 * k.val] S256x256.size (inbE k)
abbrev rX (k : Fin 32) : Rect S256x4096 := Rect.unit ![0, 128 * k.val] S256x128.size (inbX k)
abbrev rY (n : Fin 4) : Rect S256x1024 := Rect.unit ![0, 256 * n.val] S256x256.size (inbY n)
abbrev rH (t : Fin 16) : Rect S256x2048 := Rect.unit ![0, 128 * t.val] S256x128.size (inbH t)

section
variable (c : Dev nD) (i : grid0.Coords) (arg1 : Memref sig .tc .smem S1 .f32) (harg1 : arg1.IsWhole)
    (arg2 : Memref sig .tc .vmem S256x4096 .bf16) (harg2 : arg2.IsWhole)
    (arg3 : Memref sig .tc .vmem S1024x2048 .i8) (harg3 : arg3.IsWhole)
    (arg4 : Memref sig .tc .vmem S1024x256 .fp8e4m3) (harg4 : arg4.IsWhole)
    (arg5 : Memref sig .tc .vmem S256x1024 .bf16) (harg5 : arg5.IsWhole)
    (arg6 : Memref sig .tc .vmem S256x4096 .fp8e4m3) (harg6 : arg6.IsWhole)
    (arg7 : Memref sig .tc .vmem S256x128 .f32) (harg7 : arg7.IsWhole)
    (arg8 : Memref sig .tc .vmem S256x2048 .bf16) (harg8 : arg8.IsWhole)
    (arg9 : Memref sig .tc .vmem S256x2048 .bf16) (harg9 : arg9.IsWhole)
    (hc0 : ¬cond0_0 i)
    (x0 : Vec F S1 .f32) (x1 : Vec F S256x4096 .bf16) (x2 : Vec F S1024x2048 .i8) (x3 : Vec F S1024x256 .fp8e4m3)
    (xs0 : Vec F S256x2048 .bf16) (xs1 : Vec F S256x2048 .bf16)

/-- The block of the result at column block `n`, from the loads as the body makes them. -/
def yLoad (n : Fin 4) : FVec F S256x256 .bf16 :=
  yBlock (View.readAt (Elt F) arg1.view (Rect.unit ![0] S1.size inb_S1_S1_0).toLoadRect (harg1.unread x0) (Shape.Idx.first (by decide)))
    (fun k => View.readAt (Elt F) arg8.view (rE k).toLoadRect (harg8.unread xs0))
    (fun k => View.readAt (Elt F) arg9.view (rE k).toLoadRect (harg9.unread xs1))
    (fun t => View.readAt (Elt F) arg3.view (rW n t).toLoadRect (harg3.unread x2))
    (fun t => View.readAt (Elt F) arg4.view (rS n t).toLoadRect (harg4.unread x3))

/-- The pieces a point other than the first writes are the four column blocks. -/
theorem runB_pieces :
    (runB c i arg1 harg1 arg2 harg2 arg3 harg3 arg4 harg4 arg5 harg5 arg6 harg6 arg7 harg7 arg8 harg8 arg9 harg9 hc0
      x0 x1 x2 x3 xs0 xs1).1
    = (List.finRange 4).reverse.map fun n =>
        ⟨rY n, yLoad arg1 harg1 arg3 harg3 arg4 harg4 arg8 harg8 arg9 harg9 x0 x2 x3 xs0 xs1 n⟩ := by
  with_unfolding_all rfl
end

end Cert.KernelIdeal.Tiles

end
-- ==== Proof.PiecesA.lean ====
module

public import proofs.«01_k».proof.Proof.RunA
public import proofs.«01_k».proof.Proof.PiecesB

@[expose] public section

/-! What the body stores at the first point, in the words of `Tiles`. -/

set_option maxRecDepth 16384

noncomputable section

namespace Cert.KernelIdeal.Tiles

open Idealize.ShloMosaic Idealize.ShloMosaic.TcCoe Cert.KernelIdeal.Gen

variable {F : FTy → Type} [FloatOps F]

section
variable (c : Dev nD) (i : grid0.Coords) (arg1 : Memref sig .tc .smem S1 .f32) (harg1 : arg1.IsWhole)
    (arg2 : Memref sig .tc .vmem S256x4096 .bf16) (harg2 : arg2.IsWhole)
    (arg3 : Memref sig .tc .vmem S1024x2048 .i8) (harg3 : arg3.IsWhole)
    (arg4 : Memref sig .tc .vmem S1024x256 .fp8e4m3) (harg4 : arg4.IsWhole)
    (arg5 : Memref sig .tc .vmem S256x1024 .bf16) (harg5 : arg5.IsWhole)
    (arg6 : Memref sig .tc .vmem S256x4096 .fp8e4m3) (harg6 : arg6.IsWhole)
    (arg7 : Memref sig .tc .vmem S256x128 .f32) (harg7 : arg7.IsWhole)
    (arg8 : Memref sig .tc .vmem S256x2048 .bf16) (harg8 : arg8.IsWhole)
    (arg9 : Memref sig .tc .vmem S256x2048 .bf16) (harg9 : arg9.IsWhole)
    (hc0 : cond0_0 i)
    (x0 : Vec F S1 .f32) (x1 : Vec F S256x4096 .bf16) (x2 : Vec F S1024x2048 .i8) (x3 : Vec F S1024x256 .fp8e4m3)

/-- A tile of the activations as the body loads it. -/
abbrev xLoad (u : Fin 32) : Vec F S256x128 .bf16 := View.readAt (Elt F) arg2.view (rX u).toLoadRect (harg2.unread x1)

/-- The bits of the scales as the body names them. -/
abbrev sb : IVec S256x128 32 := runA.sl.v4912 c arg2 harg2 x1

theorem sb_eq : sb c arg2 harg2 x1 = sbits (fun u => xLoad arg2 harg2 x1 u) := by
  with_unfolding_all rfl

/-- The codes of tile `u`, from the loads as the body makes them. -/
def cLoad (u : Fin 32) : FVec F S256x128 .fp8e4m3 :=
  codesT (tileBits (sb c arg2 harg2 x1) (BitVec.ofNat 32 u.val)) (xLoad arg2 harg2 x1 u)

/-- The quantised activations of tile `u`. -/
def xsLoad (u : Fin 32) : FVec F S256x128 .bf16 :=
  xsT (tileBits (sb c arg2 harg2 x1) (BitVec.ofNat 32 u.val)) (xLoad arg2 harg2 x1 u)

/-- A tile of the even (`pickE`) or odd (`pickO`) columns. -/
def hLoad (idx : IVec S256x128 32) (t : Fin 16) : FVec F S256x128 .bf16 :=
  pairT idx (xsLoad c arg2 harg2 x1 ⟨2 * t.val, by omega⟩) (xsLoad c arg2 harg2 x1 ⟨2 * t.val + 1, by omega⟩)

theorem runA_codes : (runA c i arg1 harg1 arg2 harg2 arg3 harg3 arg4 harg4 arg5 harg5 arg6 harg6 arg7 harg7 arg8 harg8 arg9 harg9 hc0
      x0 x1 x2 x3).2.1
    = (List.finRange 32).reverse.map fun u => ⟨rX u, cLoad c arg2 harg2 x1 u⟩ := by
  with_unfolding_all rfl

theorem runA_scale : (runA c i arg1 harg1 arg2 harg2 arg3 harg3 arg4 harg4 arg5 harg5 arg6 harg6 arg7 harg7 arg8 harg8 arg9 harg9 hc0
      x0 x1 x2 x3).2.2.1
    = [⟨Rect.unit ![0, 0] S256x128.size inb_S256x128_S256x128_0_0, scaleT (sb c arg2 harg2 x1)⟩] := by
  with_unfolding_all rfl

theorem runA_even : runA.sl.HS0_16 c arg2 harg2 x1
    = (List.finRange 16).reverse.map fun u => ⟨rH u, hLoad c arg2 harg2 x1 pickE u⟩ := by
  with_unfolding_all rfl

theorem runA_odd : runA.sl.HS1_16 c arg2 harg2 x1
    = (List.finRange 16).reverse.map fun u => ⟨rH u, hLoad c arg2 harg2 x1 pickO u⟩ := by
  with_unfolding_all rfl

/-- The block of the result at column block `n`, from the loads as the body makes them. -/
def yLoadA (n : Fin 4) : FVec F S256x256 .bf16 :=
  yBlock (View.readAt (Elt F) arg1.view (Rect.unit ![0] S1.size inb_S1_S1_0).toLoadRect (harg1.unread x0) (Shape.Idx.first (by decide)))
    (fun k => arg8.view.readCov (runA.sl.HS0_16 c arg2 harg2 x1) (rE k).toLoadRect)
    (fun k => arg9.view.readCov (runA.sl.HS1_16 c arg2 harg2 x1) (rE k).toLoadRect)
    (fun t => View.readAt (Elt F) arg3.view (rW n t).toLoadRect (harg3.unread x2))
    (fun t => View.readAt (Elt F) arg4.view (rS n t).toLoadRect (harg4.unread x3))

theorem runA_y : (runA c i arg1 harg1 arg2 harg2 arg3 harg3 arg4 harg4 arg5 harg5 arg6 harg6 arg7 harg7 arg8 harg8 arg9 harg9 hc0
      x0 x1 x2 x3).1
    = (List.finRange 4).reverse.map fun u => ⟨rY u, yLoadA c arg1 harg1 arg2 harg2 arg3 harg3 arg4 harg4 arg8 arg9 x0 x1 x2 x3 u⟩ := by
  with_unfolding_all rfl
end

end Cert.KernelIdeal.Tiles

end
-- ==== Proof.Contents.lean ====
module

public import proofs.«01_k».proof.Proof.PiecesA
public import Idealize.ShloMosaic.Lib.Pipeline.Value
public import Idealize.ShloMosaic.Lib.WholeRead
public import Idealize.ShloMosaic.Lib.ValueIdxCore

@[expose] public section

/-! The contents the body leaves in each buffer, as a function of the index. -/

noncomputable section

namespace Cert.KernelIdeal.Tiles

open Idealize.ShloMosaic Idealize.ShloMosaic.TcCoe Cert.KernelIdeal.Gen
open Idealize.ShloMosaic.ValueIdx (ix2 eq_ix2)

/-! ## Column blocks -/

section
variable {Val : EltTy → Type} [∀ e, Nonempty (Val e)] {e : EltTy} {R C w n : ℕ}

/-- The value at an index of `n` blocks of `w` columns side by side. -/
def cols (hC : C = w * n) (f : Fin n → (⟨2, ![R, w]⟩ : Shape).Idx → Val e) (y : (⟨2, ![R, C]⟩ : Shape).Idx) : Val e :=
  f ⟨(y 1).val / w, Nat.div_lt_of_lt_mul (Nat.lt_of_lt_of_eq (y 1).isLt hC)⟩
    (ix2 (y 0) ⟨(y 1).val % w, Nat.mod_lt _ (Nat.pos_of_ne_zero fun h => by
      have := (y 1).isLt; subst h; simp [hC] at this)⟩)

/-- What the stores of `n` column blocks leave, whatever the buffer and its prior contents. -/
theorem read_cols {sig : RefSig} {κ : Kind} {sp : Space} (v : View sig κ sp ⟨2, ![R, C]⟩ e) (g : v.ty.Contents Val)
    (hC : C = w * n) (f : Fin n → (⟨2, ![R, w]⟩ : Shape).Idx → Val e)
    (inb : ∀ (u : Fin n) a, (![0, w * u.val] : Fin 2 → ℕ) a + (![R, w] : Fin 2 → ℕ) a ≤ (![R, C] : Fin 2 → ℕ) a)
    (L : List (View.Piece Val ⟨2, ![R, C]⟩ e))
    (hL : L = (List.finRange n).reverse.map fun u =>
      (⟨Rect.unit (s := ⟨2, ![R, C]⟩) ![0, w * u.val] ![R, w] (inb u), f u⟩ : View.Piece Val ⟨2, ![R, C]⟩ e)) :
    v.read Val (v.writes Val g L) = cols hC f ∧ View.canon L = cols hC f := by
  subst hL
  have hcov : ∀ y : (⟨2, ![R, C]⟩ : Shape).Idx, ∃ p ∈ (List.finRange n).reverse.map fun u =>
      (⟨Rect.unit (s := ⟨2, ![R, C]⟩) ![0, w * u.val] ![R, w] (inb u), f u⟩ : View.Piece Val ⟨2, ![R, C]⟩ e), y ∈ p.1.set := by
    intro y
    have hw : 0 < w := Nat.pos_of_ne_zero fun h => by have := (y 1).isLt; subst h; simp [hC] at this
    have hu : (y 1).val / w < n := Nat.div_lt_of_lt_mul (Nat.lt_of_lt_of_eq (y 1).isLt hC)
    refine ⟨_, List.mem_map.mpr ⟨⟨_, hu⟩, by simp, rfl⟩, ?_⟩
    rw [Rect.mem_set_unit]
    have h1 := Nat.div_add_mod (y 1).val w
    have h2 := Nat.mod_lt (y 1).val hw
    intro a
    match a with
    | ⟨0, _⟩ => exact ⟨Nat.zero_le _, by simpa using (y 0).isLt⟩
    | ⟨1, _⟩ => show w * ((y 1).val / w) ≤ (y 1).val ∧ (y 1).val < w * ((y 1).val / w) + w; omega
  have hcan : View.canon ((List.finRange n).reverse.map fun u =>
      (⟨Rect.unit (s := ⟨2, ![R, C]⟩) ![0, w * u.val] ![R, w] (inb u), f u⟩ : View.Piece Val ⟨2, ![R, C]⟩ e)) = cols hC f := by
    funext y
    refine View.canon_apply_of_pieces (cols hC f) _ (fun p hp x => ?_) y (hcov y)
    obtain ⟨u, -, rfl⟩ := List.mem_map.mp hp
    have hx : (x 1).val < w := (x 1).isLt
    have e0 : ((Rect.unit (s := ⟨2, ![R, C]⟩) ![0, w * u.val] ![R, w] (inb u)).emb x 0).val = (x 0).val := by
      show 0 + 1 * (x 0).val = _; omega
    have e1 : ((Rect.unit (s := ⟨2, ![R, C]⟩) ![0, w * u.val] ![R, w] (inb u)).emb x 1).val = w * u.val + (x 1).val := by
      show w * u.val + 1 * (x 1).val = _; omega
    have hdiv : (w * u.val + (x 1).val) / w = u.val := by
      rw [Nat.mul_add_div (by omega), Nat.div_eq_of_lt hx, Nat.add_zero]
    have hmod : (w * u.val + (x 1).val) % w = (x 1).val := by
      rw [Nat.mul_add_mod, Nat.mod_eq_of_lt hx]
    show f u x = f _ _
    congr 1
    · congr 1; exact Fin.ext (by show u.val = _ / w; rw [e1, hdiv])
    · funext a
      match a with
      | ⟨0, _⟩ => exact Fin.ext e0.symm
      | ⟨1, _⟩ => exact Fin.ext (by show (x 1).val = _ % w; rw [e1, hmod])
  exact ⟨(View.read_writes_eq_canon v g _ hcov).trans hcan, hcan⟩

/-- What one store of the whole buffer leaves. -/
theorem read_whole {S : Shape} {sig : RefSig} {κ : Kind} {sp : Space} (v : View sig κ sp S e) (g : v.ty.Contents Val)
    {off : Fin S.rank → ℕ} (hz : off = fun _ => 0) (inb : ∀ a, off a + S.size a ≤ S.size a) (x : S.Idx → Val e)
    (L : List (View.Piece Val S e)) (hL : L = [⟨Rect.unit off S.size inb, x⟩]) :
    v.read Val (v.writes Val g L) = x := by
  subst hL
  exact (View.read_writes_eq_canon v g _ fun y => ⟨_, List.mem_singleton_self _, View.mem_set_unit_zero hz inb y⟩).trans
    (View.canon_unit_zero hz inb x)
end

variable {F : FTy → Type} [FloatOps F]

/-! ## The quantised activations, from the whole of `x` -/

/-- Tile `u` of the activations. -/
def tileX (X : Vec F S256x4096 .bf16) (u : Fin 32) : Vec F S256x128 .bf16 := View.ld X (rX u)
/-- The bits of the scales. -/
def SB (X : Vec F S256x4096 .bf16) : IVec S256x128 32 := sbits (tileX X)
/-- The codes of tile `u`. -/
def codesP (X : Vec F S256x4096 .bf16) (u : Fin 32) : FVec F S256x128 .fp8e4m3 :=
  codesT (tileBits (SB X) (BitVec.ofNat 32 u.val)) (tileX X u)
/-- The quantised activations of tile `u`. -/
def xsP (X : Vec F S256x4096 .bf16) (u : Fin 32) : FVec F S256x128 .bf16 :=
  xsT (tileBits (SB X) (BitVec.ofNat 32 u.val)) (tileX X u)
/-- Tile `t` of the even (`pickE`) or odd (`pickO`) columns. -/
def halfP (X : Vec F S256x4096 .bf16) (idx : IVec S256x128 32) (t : Fin 16) : FVec F S256x128 .bf16 :=
  pairT idx (xsP X ⟨2 * t.val, by omega⟩) (xsP X ⟨2 * t.val + 1, by omega⟩)

/-- The codes. -/
def codesV (X : Vec F S256x4096 .bf16) : Vec F S256x4096 .fp8e4m3 :=
  cols (Val := Elt F) (e := .fp8e4m3) (R := 256) (C := 4096) (w := 128) (n := 32) rfl (codesP X)
/-- The scales. -/
def scaleV (X : Vec F S256x4096 .bf16) : Vec F S256x128 .f32 := scaleT (SB X)
/-- The even (`pickE`) or odd (`pickO`) columns of the quantised activations. -/
def halfV (X : Vec F S256x4096 .bf16) (idx : IVec S256x128 32) : Vec F S256x2048 .bf16 :=
  cols (Val := Elt F) (e := .bf16) (R := 256) (C := 2048) (w := 128) (n := 16) rfl (halfP X idx)

/-- A column block of a point's block of the result. -/
def yP (g : Elt F .f32) (E O : Vec F S256x2048 .bf16) (W : Vec F S1024x2048 .i8) (S : Vec F S1024x256 .fp8e4m3) (n : Fin 4) :
    FVec F S256x256 .bf16 :=
  yBlock g (fun k => View.ld E (rE k)) (fun k => View.ld O (rE k)) (fun t => View.ld W (rW n t)) (fun t => View.ld S (rS n t))
/-- A point's block of the result. -/
def yV (g : Elt F .f32) (E O : Vec F S256x2048 .bf16) (W : Vec F S1024x2048 .i8) (S : Vec F S1024x256 .fp8e4m3) :
    Vec F S256x1024 .bf16 :=
  cols (Val := Elt F) (e := .bf16) (R := 256) (C := 1024) (w := 256) (n := 4) rfl (yP g E O W S)

/-- The one entry of the global scale. -/
def gOf (x0 : Vec F S1 .f32) : Elt F .f32 := x0 (fun _ => ⟨0, by decide +revert⟩)

section
variable (c : Dev nD) (i : grid0.Coords) (arg1 : Memref sig .tc .smem S1 .f32) (harg1 : arg1.IsWhole)
    (arg2 : Memref sig .tc .vmem S256x4096 .bf16) (harg2 : arg2.IsWhole)
    (arg3 : Memref sig .tc .vmem S1024x2048 .i8) (harg3 : arg3.IsWhole)
    (arg4 : Memref sig .tc .vmem S1024x256 .fp8e4m3) (harg4 : arg4.IsWhole)
    (arg5 : Memref sig .tc .vmem S256x1024 .bf16) (harg5 : arg5.IsWhole)
    (arg6 : Memref sig .tc .vmem S256x4096 .fp8e4m3) (harg6 : arg6.IsWhole)
    (arg7 : Memref sig .tc .vmem S256x128 .f32) (harg7 : arg7.IsWhole)
    (arg8 : Memref sig .tc .vmem S256x2048 .bf16) (harg8 : arg8.IsWhole)
    (arg9 : Memref sig .tc .vmem S256x2048 .bf16) (harg9 : arg9.IsWhole)
    (x0 : Vec F S1 .f32) (x1 : Vec F S256x4096 .bf16) (x2 : Vec F S1024x2048 .i8) (x3 : Vec F S1024x256 .fp8e4m3)
    (xs0 : Vec F S256x2048 .bf16) (xs1 : Vec F S256x2048 .bf16)

theorem xLoad_eq (u : Fin 32) : xLoad arg2 harg2 x1 u = tileX x1 u :=
  funext fun x => harg2.readAt_unread x1 (rX u).toLoadRect x
theorem wLoad_eq (n : Fin 4) (t : Fin 16) :
    View.readAt (Elt F) arg3.view (rW n t).toLoadRect (harg3.unread x2) = View.ld x2 (rW n t) :=
  funext fun x => harg3.readAt_unread x2 _ x
theorem sLoad_eq (n : Fin 4) (t : Fin 2) :
    View.readAt (Elt F) arg4.view (rS n t).toLoadRect (harg4.unread x3) = View.ld x3 (rS n t) :=
  funext fun x => harg4.readAt_unread x3 _ x
theorem eLoad_eq (k : Fin 8) :
    View.readAt (Elt F) arg8.view (rE k).toLoadRect (harg8.unread xs0) = View.ld xs0 (rE k) :=
  funext fun x => harg8.readAt_unread xs0 _ x
theorem gLoad_eq (h) : View.readAt (Elt F) arg1.view (Rect.unit ![0] S1.size inb_S1_S1_0).toLoadRect (harg1.unread x0)
    (Shape.Idx.first h) = gOf x0 := by
  rw [harg1.readAt_unread]
  refine congrArg x0 (funext fun a => ?_)
  match a with
  | ⟨0, _⟩ => exact Fin.ext rfl

theorem sb_eq_SB : sb c arg2 harg2 x1 = SB x1 := by
  rw [sb_eq]; unfold SB; congr 1; funext u; exact xLoad_eq arg2 harg2 x1 u
theorem cLoad_eq (u : Fin 32) : cLoad c arg2 harg2 x1 u = codesP x1 u := by
  unfold cLoad codesP; rw [sb_eq_SB, xLoad_eq]
theorem xsLoad_eq (u : Fin 32) : xsLoad c arg2 harg2 x1 u = xsP x1 u := by
  unfold xsLoad xsP; rw [sb_eq_SB, xLoad_eq]
theorem hLoad_eq (idx : IVec S256x128 32) (t : Fin 16) : hLoad c arg2 harg2 x1 idx t = halfP x1 idx t := by
  unfold hLoad halfP; rw [xsLoad_eq, xsLoad_eq]
theorem yLoad_eq (n : Fin 4) : yLoad arg1 harg1 arg3 harg3 arg4 harg4 arg8 harg8 arg9 harg9 x0 x2 x3 xs0 xs1 n
    = yP (gOf x0) xs0 xs1 x2 x3 n := by
  unfold yLoad yP; rw [gLoad_eq]; simp only [wLoad_eq, sLoad_eq, eLoad_eq]

/-- The even columns the first point leaves in the scratch. -/
theorem read_even (v : View sig .tc .vmem S256x2048 .bf16) (g : v.ty.Contents (Elt F)) :
    v.read (Elt F) (v.writes (Elt F) g (runA.sl.HS0_16 c arg2 harg2 x1)) = halfV x1 pickE
      ∧ View.canon (runA.sl.HS0_16 c arg2 harg2 x1) = halfV x1 pickE :=
  read_cols (w := 128) (n := 16) v g rfl (halfP x1 pickE) inbH _ ((runA_even c arg2 harg2 x1).trans (by simp only [hLoad_eq]))

/-- The odd columns the first point leaves in the scratch. -/
theorem read_odd (v : View sig .tc .vmem S256x2048 .bf16) (g : v.ty.Contents (Elt F)) :
    v.read (Elt F) (v.writes (Elt F) g (runA.sl.HS1_16 c arg2 harg2 x1)) = halfV x1 pickO
      ∧ View.canon (runA.sl.HS1_16 c arg2 harg2 x1) = halfV x1 pickO :=
  read_cols (w := 128) (n := 16) v g rfl (halfP x1 pickO) inbH _ ((runA_odd c arg2 harg2 x1).trans (by simp only [hLoad_eq]))

theorem yLoadA_eq (n : Fin 4) : yLoadA c arg1 harg1 arg2 harg2 arg3 harg3 arg4 harg4 arg8 arg9 x0 x1 x2 x3 n
    = yP (gOf x0) (halfV x1 pickE) (halfV x1 pickO) x2 x3 n := by
  unfold yLoadA yP; rw [gLoad_eq]
  simp only [wLoad_eq, sLoad_eq, View.readCov_eq_canon', (read_even c arg2 harg2 x1 arg8.view arg8.view.junk).2,
    (read_odd c arg2 harg2 x1 arg9.view arg9.view.junk).2]

section
variable (hc0 : ¬cond0_0 i)
/-- The block of the result a point other than the first leaves. -/
theorem readB_y (v : View sig .tc .vmem S256x1024 .bf16) (g : v.ty.Contents (Elt F)) :
    v.read (Elt F) (v.writes (Elt F) g (runB c i arg1 harg1 arg2 harg2 arg3 harg3 arg4 harg4 arg5 harg5 arg6 harg6 arg7 harg7
      arg8 harg8 arg9 harg9 hc0 x0 x1 x2 x3 xs0 xs1).1) = yV (gOf x0) xs0 xs1 x2 x3 :=
  (read_cols (w := 256) (n := 4) v g rfl (yP (gOf x0) xs0 xs1 x2 x3) inbY _
    ((runB_pieces c i arg1 harg1 arg2 harg2 arg3 harg3 arg4 harg4 arg5 harg5 arg6 harg6 arg7 harg7
      arg8 harg8 arg9 harg9 hc0 x0 x1 x2 x3 xs0 xs1).trans (by simp only [yLoad_eq]))).1
end

section
variable (hc0 : cond0_0 i)
/-- The block of the result the first point leaves. -/
theorem readA_y (v : View sig .tc .vmem S256x1024 .bf16) (g : v.ty.Contents (Elt F)) :
    v.read (Elt F) (v.writes (Elt F) g (runA c i arg1 harg1 arg2 harg2 arg3 harg3 arg4 harg4 arg5 harg5 arg6 harg6 arg7 harg7
      arg8 harg8 arg9 harg9 hc0 x0 x1 x2 x3).1) = yV (gOf x0) (halfV x1 pickE) (halfV x1 pickO) x2 x3 :=
  (read_cols (w := 256) (n := 4) v g rfl (yP (gOf x0) (halfV x1 pickE) (halfV x1 pickO) x2 x3) inbY _
    ((runA_y c i arg1 harg1 arg2 harg2 arg3 harg3 arg4 harg4 arg5 harg5 arg6 harg6 arg7 harg7
      arg8 harg8 arg9 harg9 hc0 x0 x1 x2 x3).trans (by simp only [yLoadA_eq]))).1

/-- The codes the first point leaves. -/
theorem readA_codes (v : View sig .tc .vmem S256x4096 .fp8e4m3) (g : v.ty.Contents (Elt F)) :
    v.read (Elt F) (v.writes (Elt F) g (runA c i arg1 harg1 arg2 harg2 arg3 harg3 arg4 harg4 arg5 harg5 arg6 harg6 arg7 harg7
      arg8 harg8 arg9 harg9 hc0 x0 x1 x2 x3).2.1) = codesV x1 :=
  (read_cols (w := 128) (n := 32) v g rfl (codesP x1) inbX _
    ((runA_codes c i arg1 harg1 arg2 harg2 arg3 harg3 arg4 harg4 arg5 harg5 arg6 harg6 arg7 harg7
      arg8 harg8 arg9 harg9 hc0 x0 x1 x2 x3).trans (by simp only [cLoad_eq]))).1

/-- The scales the first point leaves. -/
theorem readA_scale (v : View sig .tc .vmem S256x128 .f32) (g : v.ty.Contents (Elt F)) :
    v.read (Elt F) (v.writes (Elt F) g (runA c i arg1 harg1 arg2 harg2 arg3 harg3 arg4 harg4 arg5 harg5 arg6 harg6 arg7 harg7
      arg8 harg8 arg9 harg9 hc0 x0 x1 x2 x3).2.2.1) = scaleV x1 := by
  have hz : (![0, 0] : Fin S256x128.rank → ℕ) = fun _ => 0 := funext fun a => by
    match a with
    | ⟨0, _⟩ => rfl
    | ⟨1, _⟩ => rfl
  rw [show scaleV x1 = scaleT (sb c arg2 harg2 x1) from congrArg scaleT (sb_eq_SB c arg2 harg2 x1).symm]
  exact read_whole v g hz inb_S256x128_S256x128_0_0 (scaleT (sb c arg2 harg2 x1)) _
    (runA_scale c i arg1 harg1 arg2 harg2 arg3 harg3 arg4 harg4 arg5 harg5 arg6 harg6 arg7 harg7
      arg8 harg8 arg9 harg9 hc0 x0 x1 x2 x3)

/-- The even columns, as the first point's run names them. -/
theorem readA_even (v : View sig .tc .vmem S256x2048 .bf16) (g : v.ty.Contents (Elt F)) :
    v.read (Elt F) (v.writes (Elt F) g (runA c i arg1 harg1 arg2 harg2 arg3 harg3 arg4 harg4 arg5 harg5 arg6 harg6 arg7 harg7
      arg8 harg8 arg9 harg9 hc0 x0 x1 x2 x3).2.2.2.1) = halfV x1 pickE :=
  (read_even c arg2 harg2 x1 v g).1

/-- The odd columns, as the first point's run names them. -/
theorem readA_odd (v : View sig .tc .vmem S256x2048 .bf16) (g : v.ty.Contents (Elt F)) :
    v.read (Elt F) (v.writes (Elt F) g (runA c i arg1 harg1 arg2 harg2 arg3 harg3 arg4 harg4 arg5 harg5 arg6 harg6 arg7 harg7
      arg8 harg8 arg9 harg9 hc0 x0 x1 x2 x3).2.2.2.2.1) = halfV x1 pickO :=
  (read_odd c arg2 harg2 x1 v g).1
end
end

end Cert.KernelIdeal.Tiles

end
-- ==== Proof.KData.lean ====
module

public import proofs.«01_k».proof.Proof.Contents
public import Idealize.ShloMosaic.Lib.Claim

@[expose] public section

/-! The run of the kernel's program: what every buffer holds at every point of the grid, the body's obligation, the
launch, and the frame. The first point stores the codes, the scales and the two scratch halves; the later points leave
them alone, and the pipeline writes codes and scales back after the last. -/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Tiles

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Outputs 5 and 6 are written back once, after the last point -/

/-- Where the buffers of outputs 5 and 6 hold nothing the body stored: before the first point, and after the last. -/
def freshTab : ℕ → Bool := fun n => n == 0 || n == 28
theorem freshTab5_step : ∀ t : Fin cfg0.N,
    freshTab (t.val + 1) = ((cfg0.win 5).flush t || (cfg0.idle 5 (cfg0.grid.coords t) && freshTab t.val)) := by decide +kernel
theorem freshTab6_step : ∀ t : Fin cfg0.N,
    freshTab (t.val + 1) = ((cfg0.win 6).flush t || (cfg0.idle 6 (cfg0.grid.coords t) && freshTab t.val)) := by decide +kernel
theorem notFresh5 (t : Fin cfg0.N) (h : t.val ≠ 0) : cfg0.fresh 5 t.val = false := by
  rw [Pipeline.Cfg.fresh_tab cfg0 5 freshTab rfl freshTab5_step t.val (Nat.le_of_lt t.isLt)]
  have := lt_of_lt_of_eq t.isLt (show cfg0.N = 28 from N_0)
  simp [freshTab]; omega
theorem notFresh6 (t : Fin cfg0.N) (h : t.val ≠ 0) : cfg0.fresh 6 t.val = false := by
  rw [Pipeline.Cfg.fresh_tab cfg0 6 freshTab rfl freshTab6_step t.val (Nat.le_of_lt t.isLt)]
  have := lt_of_lt_of_eq t.isLt (show cfg0.N = 28 from N_0)
  simp [freshTab]; omega

/-- The block of x, the same at every point: all of it. -/
def xAll (c : Dev nD) : Vec F S256x4096 .bf16 := iblk m c 1 ⟨0, lt_of_lt_of_eq (by decide) (show 28 = cfg0.N from N_0.symm)⟩
theorem iblk1 (c : Dev nD) (t : Fin cfg0.N) : iblk m c 1 t = xAll m c := rfl

/-- The block of the product left at point `t`. -/
def yAt (c : Dev nD) (t : Fin cfg0.N) : Vec F S256x1024 .bf16 :=
  yV (gOf (iblk m c 0 t)) (halfV (xAll m c) pickE) (halfV (xAll m c) pickO) (iblk m c 2 t) (iblk m c 3 t)

/-- The invariant before position `n`: before the first point every scratch at anything; afterwards the two scratch
    buffers at the halves of x, and the generator register at some state. -/
def PhiS (c : Dev nD) : (n : ℕ) → sProp 𝕄
  | 0 => Pipeline.ΦA spec0 c
  | _ + 1 => iprop(iprop(owns (c : Thread nD τ) scM0_0 fullShare (halfV (xAll m c) pickE) ∗ owns (c : Thread nD τ) scM0_1 fullShare (halfV (xAll m c) pickO)) ∗ (∃ r, prngReg c r))

theorem PhiS_zero (c : Dev nD) (n : ℕ) (hz : n = 0) : PhiS m c n = Pipeline.ΦA spec0 c := by
  subst hz; rfl
theorem PhiS_succ (c : Dev nD) (n : ℕ) :
    PhiS m c (n + 1) = iprop(iprop(owns (c : Thread nD τ) scM0_0 fullShare (halfV (xAll m c) pickE) ∗ owns (c : Thread nD τ) scM0_1 fullShare (halfV (xAll m c) pickO)) ∗ (∃ r, prngReg c r)) := rfl
theorem PhiS_pos (c : Dev nD) (n : ℕ) (hz : n ≠ 0) :
    PhiS m c n = iprop(iprop(owns (c : Thread nD τ) scM0_0 fullShare (halfV (xAll m c) pickE) ∗ owns (c : Thread nD τ) scM0_1 fullShare (halfV (xAll m c) pickO)) ∗ (∃ r, prngReg c r)) := by
  cases n with
  | zero => exact absurd rfl hz
  | succ n => rfl

/-! ## The pipeline's proof data -/

/-- The proof data: the arrays as the region finds them; after the body at point `t` each input's buffer at its block,
    output 4's at the point's block of the product, outputs 5 and 6 at the codes and the scales. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => yAt m c t
    | ⟨5, _⟩ => codesV (xAll m c)
    | ⟨6, _⟩ => scaleV (xAll m c)
  Φ t := PhiS m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = yAt m c t := by dsimp only [dats]
theorem after0_5 (c : Dev nD) (t : Fin cfg0.N) : (dats m 0 c).after 5 t = codesV (xAll m c) := by dsimp only [dats]
theorem after0_6 (c : Dev nD) (t : Fin cfg0.N) : (dats m 0 c).after 6 t = scaleV (xAll m c) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- After the first point the buffers of outputs 5 and 6 hold what it left. -/
theorem before0_5 (c : Dev nD) (t : Fin cfg0.N) (h : t.val ≠ 0) (d) : (dats m 0 c).before 5 t d = codesV (xAll m c) := by
  rw [Dat.before_out_traj _ 5 rfl (fun _ _ => rfl) (fun t _ _ _ => by rw [after0_5, after0_5]) t.val t rfl d,
    if_neg (by rw [notFresh5 t h]; exact Bool.false_ne_true)]
  dsimp only [dats]
theorem before0_6 (c : Dev nD) (t : Fin cfg0.N) (h : t.val ≠ 0) (d) : (dats m 0 c).before 6 t d = scaleV (xAll m c) := by
  rw [Dat.before_out_traj _ 6 rfl (fun _ _ => rfl) (fun t _ _ _ => by rw [after0_6, after0_6]) t.val t rfl d,
    if_neg (by rw [notFresh6 t h]; exact Bool.false_ne_true)]
  dsimp only [dats]

/-- A window whose buffer the body hands on as it found it, at what the proof data says, is left as stated: at a point
    that stores into it, at a point that does not, and where it is written back. -/
theorem leaves_kept {c : Dev nD} (dat : Dat τ (Elt F) Unit ℕ (UR sig nD τ) ℕ cfg0 c) (w : Fin cfg0.W) (t : Fin cfg0.N)
    (h : ∀ d, dat.before w t d = dat.after w t) (d) :
    owns (c : Thread nD τ) ((cfg0.win w).stage (cfg0.slots t w)) fullShare (dat.before w t d) ⊢ (dat.leavesExact w t : sProp 𝕄) := by
  unfold Dat.leavesExact
  split
  · split
    · iintro H; iexists d; iexact H
    · rw [h d]
  · rw [h d]

/-! ## The body's triples -/

set_option maxHeartbeats 1600000 in
/-- The body at the first point, on any memrefs: what each output and each scratch ends with. -/
theorem tripleA (c : Dev nD) (i : grid0.Coords) (arg1 : Memref sig .tc .smem S1 .f32) (harg1 : arg1.IsWhole)
    (arg2 : Memref sig .tc .vmem S256x4096 .bf16) (harg2 : arg2.IsWhole)
    (arg3 : Memref sig .tc .vmem S1024x2048 .i8) (harg3 : arg3.IsWhole)
    (arg4 : Memref sig .tc .vmem S1024x256 .fp8e4m3) (harg4 : arg4.IsWhole)
    (arg5 : Memref sig .tc .vmem S256x1024 .bf16) (harg5 : arg5.IsWhole)
    (arg6 : Memref sig .tc .vmem S256x4096 .fp8e4m3) (harg6 : arg6.IsWhole)
    (arg7 : Memref sig .tc .vmem S256x128 .f32) (harg7 : arg7.IsWhole)
    (arg8 : Memref sig .tc .vmem S256x2048 .bf16) (harg8 : arg8.IsWhole)
    (arg9 : Memref sig .tc .vmem S256x2048 .bf16) (harg9 : arg9.IsWhole) (hc0 : cond0_0 i)
    (x0 : Vec F S1 .f32) (x1 : Vec F S256x4096 .bf16) (x2 : Vec F S1024x2048 .i8) (x3 : Vec F S1024x256 .fp8e4m3)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
      ∗ (∃ d, owns (c : Thread nD τ) arg5 fullShare d) ∗ (∃ d, owns (c : Thread nD τ) arg6 fullShare d) ∗ (∃ d, owns (c : Thread nD τ) arg7 fullShare d)
      ∗ (∃ d, owns (c : Thread nD τ) arg8 fullShare d) ∗ (∃ d, owns (c : Thread nD τ) arg9 fullShare d)
      ∗ (iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare (yV (gOf x0) (halfV x1 pickE) (halfV x1 pickO) x2 x3)
        ∗ owns (c : Thread nD τ) arg6 fullShare (codesV x1) ∗ owns (c : Thread nD τ) arg7 fullShare (scaleV x1)
        ∗ owns (c : Thread nD τ) arg8 fullShare (halfV x1 pickE) ∗ owns (c : Thread nD τ) arg9 fullShare (halfV x1 pickO)) -∗ K ⟨⟩))
    ⊢ wp frame (wpE (defs₀ (F := F)) Variants.none c none) E (cc0_nvfp4_matmul i arg1 harg1 arg2 harg2 arg3 harg3 arg4 harg4 arg5 harg5 arg6 harg6 arg7 harg7 arg8 harg8 arg9 harg9) K := by
  have hy := readA_y c i arg1 harg1 arg2 harg2 arg3 harg3 arg4 harg4 arg5 harg5 arg6 harg6 arg7 harg7 arg8 harg8 arg9 harg9 x0 x1 x2 x3 hc0 arg5.view
  have hq := readA_codes c i arg1 harg1 arg2 harg2 arg3 harg3 arg4 harg4 arg5 harg5 arg6 harg6 arg7 harg7 arg8 harg8 arg9 harg9 x0 x1 x2 x3 hc0 arg6.view
  have hs := readA_scale c i arg1 harg1 arg2 harg2 arg3 harg3 arg4 harg4 arg5 harg5 arg6 harg6 arg7 harg7 arg8 harg8 arg9 harg9 x0 x1 x2 x3 hc0 arg7.view
  have he := readA_even c i arg1 harg1 arg2 harg2 arg3 harg3 arg4 harg4 arg5 harg5 arg6 harg6 arg7 harg7 arg8 harg8 arg9 harg9 x0 x1 x2 x3 hc0 arg8.view
  have ho := readA_odd c i arg1 harg1 arg2 harg2 arg3 harg3 arg4 harg4 arg5 harg5 arg6 harg6 arg7 harg7 arg8 harg8 arg9 harg9 x0 x1 x2 x3 hc0 arg9.view
  have hw := (runA c i arg1 harg1 arg2 harg2 arg3 harg3 arg4 harg4 arg5 harg5 arg6 harg6 arg7 harg7 arg8 harg8 arg9 harg9 hc0 x0 x1 x2 x3).2.2.2.2.2 E K
  generalize runA c i arg1 harg1 arg2 harg2 arg3 harg3 arg4 harg4 arg5 harg5 arg6 harg6 arg7 harg7 arg8 harg8 arg9 harg9 hc0 x0 x1 x2 x3 = R at hy hq hs he ho hw
  generalize yV (gOf x0) (halfV x1 pickE) (halfV x1 pickO) x2 x3 = Y at hy ⊢
  generalize codesV x1 = Q at hq ⊢
  generalize scaleV x1 = S at hs ⊢
  generalize halfV x1 pickE = He at he ⊢
  generalize halfV x1 pickO = Ho at ho ⊢

  iintro ⟨H0, H1, H2, H3, H4, H5, H6, HS0, HS1, HK⟩
  iapply hw
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  iintro ⟨H0, H1, H2, H3, ⟨%e4, H4⟩, ⟨%e5, H5⟩, ⟨%e6, H6⟩, ⟨%es0, HS0⟩, ⟨%es1, HS1⟩⟩
  iapply HK
  isplitl [H0]; · iexact H0
  isplitl [H1]; · iexact H1
  isplitl [H2]; · iexact H2
  isplitl [H3]; · iexact H3
  isplitl [H4]
  · unfold owns; iexists _; isplitr
    swap; · iexact H4
    ipureintro; exact hy _
  isplitl [H5]
  · unfold owns; iexists _; isplitr
    swap; · iexact H5
    ipureintro; exact hq _
  isplitl [H6]
  · unfold owns; iexists _; isplitr
    swap; · iexact H6
    ipureintro; exact hs _
  isplitl [HS0]
  · unfold owns; iexists _; isplitr
    swap; · iexact HS0
    ipureintro; exact he _
  unfold owns; iexists _; isplitr
  swap; · iexact HS1
  ipureintro; exact ho _

set_option maxHeartbeats 1600000 in
/-- The body at a later point, on any memrefs: what the output ends with, the scratch as found. -/
theorem tripleB (c : Dev nD) (i : grid0.Coords) (arg1 : Memref sig .tc .smem S1 .f32) (harg1 : arg1.IsWhole)
    (arg2 : Memref sig .tc .vmem S256x4096 .bf16) (harg2 : arg2.IsWhole)
    (arg3 : Memref sig .tc .vmem S1024x2048 .i8) (harg3 : arg3.IsWhole)
    (arg4 : Memref sig .tc .vmem S1024x256 .fp8e4m3) (harg4 : arg4.IsWhole)
    (arg5 : Memref sig .tc .vmem S256x1024 .bf16) (harg5 : arg5.IsWhole)
    (arg6 : Memref sig .tc .vmem S256x4096 .fp8e4m3) (harg6 : arg6.IsWhole)
    (arg7 : Memref sig .tc .vmem S256x128 .f32) (harg7 : arg7.IsWhole)
    (arg8 : Memref sig .tc .vmem S256x2048 .bf16) (harg8 : arg8.IsWhole)
    (arg9 : Memref sig .tc .vmem S256x2048 .bf16) (harg9 : arg9.IsWhole) (hc0 : ¬cond0_0 i)
    (x0 : Vec F S1 .f32) (x1 : Vec F S256x4096 .bf16) (x2 : Vec F S1024x2048 .i8) (x3 : Vec F S1024x256 .fp8e4m3)
    (xs0 xs1 : Vec F S256x2048 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
      ∗ (∃ d, owns (c : Thread nD τ) arg5 fullShare d)
      ∗ owns (c : Thread nD τ) arg8 fullShare xs0 ∗ owns (c : Thread nD τ) arg9 fullShare xs1
      ∗ (iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare (yV (gOf x0) xs0 xs1 x2 x3)
        ∗ owns (c : Thread nD τ) arg8 fullShare xs0 ∗ owns (c : Thread nD τ) arg9 fullShare xs1) -∗ K ⟨⟩))
    ⊢ wp frame (wpE (defs₀ (F := F)) Variants.none c none) E (cc0_nvfp4_matmul i arg1 harg1 arg2 harg2 arg3 harg3 arg4 harg4 arg5 harg5 arg6 harg6 arg7 harg7 arg8 harg8 arg9 harg9) K := by
  have hy := readB_y c i arg1 harg1 arg2 harg2 arg3 harg3 arg4 harg4 arg5 harg5 arg6 harg6 arg7 harg7 arg8 harg8 arg9 harg9 x0 x1 x2 x3 xs0 xs1 hc0 arg5.view
  have hw := (runB c i arg1 harg1 arg2 harg2 arg3 harg3 arg4 harg4 arg5 harg5 arg6 harg6 arg7 harg7 arg8 harg8 arg9 harg9 hc0 x0 x1 x2 x3 xs0 xs1).2 E K
  generalize runB c i arg1 harg1 arg2 harg2 arg3 harg3 arg4 harg4 arg5 harg5 arg6 harg6 arg7 harg7 arg8 harg8 arg9 harg9 hc0 x0 x1 x2 x3 xs0 xs1 = R at hy hw
  generalize yV (gOf x0) xs0 xs1 x2 x3 = Y at hy ⊢

  iintro ⟨H0, H1, H2, H3, H4, HS0, HS1, HK⟩
  iapply hw
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  iintro ⟨H0, H1, H2, H3, ⟨%e4, H4⟩, HS0, HS1⟩
  iapply HK
  isplitl [H0]; · iexact H0
  isplitl [H1]; · iexact H1
  isplitl [H2]; · iexact H2
  isplitl [H3]; · iexact H3
  isplitl [H4]
  · unfold owns; iexists _; isplitr
    swap; · iexact H4
    ipureintro; exact hy _
  isplitl [HS0]; · iexact HS0
  iexact HS1

end Cert.KernelIdeal.Gen

end
-- ==== Proof.KFrame.lean ====
module

public import proofs.«01_k».proof.Proof.KData
public import Idealize.ShloMosaic.Lib.Claim

@[expose] public section

/-! The run of the kernel's program: what every buffer holds at every point of the grid, the body's obligation, the
launch, and the frame. The first point stores the codes, the scales and the two scratch halves; the later points leave
them alone, and the pipeline writes codes and scales back after the last. -/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Tiles

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)
attribute [local irreducible] yV codesV scaleV halfV gOf

set_option maxHeartbeats 1000000 in
/-- The body at any point: the first runs the branch that quantises x; the others find codes and scales where it left
    them and the halves of x in the scratch. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, iblk1]
  rw [show (dats m 0 c).owesAt () t.succ = (dats m 0 c).owesAt () t.castSucc from rfl]
  rw [show (dats m 0 c).Φ t.succ = PhiS m c (t.val + 1) from rfl, PhiS_succ]
  rw [show (dats m 0 c).Φ t.castSucc = PhiS m c t.val from rfl]
  have hN : t.val < 28 := lt_of_lt_of_eq t.isLt (show cfg0.N = 28 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1, iblk1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  by_cases h0 : t.val % 28 = 0
  · have hz : t.val = 0 := by omega
    rw [show (dats m 0 c).leavesExact 5 t = owns (c : Thread nD τ) (ms0_5 t) fullShare ((dats m 0 c).after 5 t) from by
      unfold Dat.leavesExact; rw [liveAt0_5_A t ((hcond0_0 t).mpr h0)], after0_5]
    rw [show (dats m 0 c).leavesExact 6 t = owns (c : Thread nD τ) (ms0_6 t) fullShare ((dats m 0 c).after 6 t) from by
      unfold Dat.leavesExact; rw [liveAt0_6_A t ((hcond0_0 t).mpr h0)], after0_6]
    rw [PhiS_zero m c _ hz, PhiA0_eq]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply (tripleA c (grid0.coords t) _ _ _ _ _ _ _ _ _ _ _ _ _ _ _ _ _ _ ((hcond0_0 t).mpr h0) (iblk m c 0 t) (xAll m c) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]
    · iexact H4
    isplitl [H5]
    · iexact H5
    iexact H6
  · have hz : t.val ≠ 0 := by omega
    rw [PhiS_pos m c _ hz]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply (tripleB c (grid0.coords t) _ _ _ _ _ _ _ _ _ _ (ms0_5 t) (hs0_5 t) (ms0_6 t) (hs0_6 t) _ _ _ _ (fun h => h0 ((hcond0_0 t).mp h)) (iblk m c 0 t) (xAll m c) (iblk m c 2 t) (iblk m c 3 t) (halfV (xAll m c) pickE) (halfV (xAll m c) pickO) Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    iintro ⟨H0, H1, H2, H3, H4, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]
    · iexact H4
    isplitl [H5]
    · iapply (leaves_kept (dats m 0 c) 5 t (fun d => (before0_5 m c t hz d).trans (after0_5 m c t).symm) d5)
      iexact H5
    iapply (leaves_kept (dats m 0 c) 6 t (fun d => (before0_6 m c t hz d).trans (after0_6 m c t).symm) d6)
    iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 from rfl, PhiS_zero m c 0 rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val from rfl, PhiS_pos m c _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 28 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: the argument arrays end unchanged and every semaphore counter at zero, whatever the values are. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Gen

end
-- ==== Proof.KValue.lean ====
module

public import proofs.«01_k».proof.Proof.KFrame
public import Idealize.ShloMosaic.Lib.Pipeline.Value

@[expose] public section

/-! What the three result arrays hold after the run, as functions of the arrays the pipeline stages: the product block
by block, the codes and the scales whole. -/

noncomputable section

namespace Cert.KernelIdeal.Value

open Cert.KernelIdeal Cert.KernelIdeal.Gen Cert.KernelIdeal.Tiles Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Result 0 -/

/-- The place of index `i` in its block. -/
abbrev loc4Of (i : S256x28672.Idx) : S256x1024.Idx := fun a => match a with
  | ⟨0, _⟩ => ⟨(i 0).val, (i 0).isLt⟩
  | ⟨1, _⟩ => ⟨(i 1).val % 1024, Nat.mod_lt _ (by decide)⟩
/-- The point that writes index `i` back. -/
abbrev pt4Of (i : S256x28672.Idx) : Fin cfg0.N := ⟨(i 1).val / 1024, lt_of_lt_of_eq (by have : (i 1).val < 28672 := (i 1).isLt; omega) (show 28 = cfg0.N from N_0.symm)⟩
/-- What the array ends holding. -/
def G4 (c : Dev nD) : Buf (Elt F) ((c : Thread nD τ).loc main_v2_0) := fun i => yAt m c (pt4Of i) (loc4Of i)

theorem idx_facts4 : ∀ t : Fin cfg0.N, win0_4.index t (0 : Fin 2) = 0 ∧ win0_4.index t (1 : Fin 2) = t.val :=
  (by decide +kernel : ∀ t : Fin grid0.N, _)

/-- What a flushing point writes back is its block of the array. -/
theorem flushed4_eq (c : Dev nD) (t : Fin cfg0.N) (hf : (cfg0.win 4).flush t = true) :
    (dats m 0 c).flushed 4 t = ((cfg0.win 4).blk t).view.read (Elt F) (G4 m c) := by
  show (cfg0.win 4).cut (grid0.coords t) ((dats m 0 c).after 4 t) = _
  rw [after0_4]
  obtain ⟨e0, e1⟩ := idx_facts4 t
  funext y
  have hy0 : (y 0).val < 256 := (y 0).isLt
  have hy1 : (y 1).val < 1024 := (y 1).isLt
  have hb0 : (((cfg0.win 4).blk t).view.emb y 0).val = win0_4.index t (0 : Fin 2) * 256 + 1 * (y 0).val := rfl
  have hb1 : (((cfg0.win 4).blk t).view.emb y 1).val = win0_4.index t (1 : Fin 2) * 1024 + 1 * (y 1).val := rfl
  rw [e0] at hb0
  rw [e1] at hb1
  have hl : loc4Of (((cfg0.win 4).blk t).view.emb y) = (cfg0.win 4).xinj (grid0.coords t) y := by
    funext a; apply Fin.ext
    match a with
    | ⟨0, _⟩ => show (((cfg0.win 4).blk t).view.emb y 0).val = (y 0).val; omega
    | ⟨1, _⟩ => show (((cfg0.win 4).blk t).view.emb y 1).val % 1024 = (y 1).val; omega
  have hp : pt4Of (((cfg0.win 4).blk t).view.emb y) = t := by
    apply Fin.ext
    show (((cfg0.win 4).blk t).view.emb y 1).val / 1024 = t.val
    omega
  show yAt m c t ((cfg0.win 4).xinj (grid0.coords t) y) = G4 m c (((cfg0.win 4).blk t).view.emb y)
  unfold G4
  rw [hl, hp]

/-- An index of the array is in point `t`'s block iff each coordinate is in the block's range on its axis. -/
theorem mem_blk4 (t : Fin cfg0.N) (i : S256x28672.Idx) :
    i ∈ ((cfg0.win 4).blk t).view.set ↔ ∀ a : Fin 2, win0_4.index t a * S256x1024.size a ≤ (i a).val ∧ (i a).val < win0_4.index t a * S256x1024.size a + S256x1024.size a := by
  show i ∈ ((View.whole main_v2_0).slice (win0_4.rect t)).set ↔ _
  rw [View.set_slice_whole, Rect.mem_set_unit]
  exact Iff.rfl

theorem flush4_at : ∀ t : Fin cfg0.N, (cfg0.win 4).flush t = true := by decide +kernel

/-- The array after the run. -/
theorem final4 (c : Dev nD) : (dats m 0 c).arrAt 4 cfg0.N = G4 m c :=
  (dats m 0 c).arrAt_eq_of_cover 4 _ (fun t hf => flushed4_eq m c t hf) (fun i => by
    have h0 : (i 0).val < 256 := (i 0).isLt
    have h1 : (i 1).val < 28672 := (i 1).isLt
    let t : Fin cfg0.N := pt4Of i
    obtain ⟨e0, e1⟩ := idx_facts4 t
    refine ⟨t, flush4_at t, (mem_blk4 t i).2 fun a => ?_⟩
    match a with
    | ⟨0, _⟩ => show win0_4.index t (0 : Fin 2) * 256 ≤ (i 0).val ∧ (i 0).val < win0_4.index t (0 : Fin 2) * 256 + 256; omega
    | ⟨1, _⟩ =>
      show win0_4.index t (1 : Fin 2) * 1024 ≤ (i 1).val ∧ (i 1).val < win0_4.index t (1 : Fin 2) * 1024 + 1024
      rw [e1]; show (i 1).val / 1024 * 1024 ≤ (i 1).val ∧ (i 1).val < (i 1).val / 1024 * 1024 + 1024; omega)

/-! ## Result 1 -/

/-- What the array ends holding. -/
def G5 (c : Dev nD) : Buf (Elt F) ((c : Thread nD τ).loc main_v2_1) := codesV (xAll m c)

theorem idx_facts5 : ∀ t : Fin cfg0.N, win0_5.index t (0 : Fin 2) = 0 ∧ win0_5.index t (1 : Fin 2) = 0 :=
  (by decide +kernel : ∀ t : Fin grid0.N, _)

/-- What a flushing point writes back is its block of the array. -/
theorem flushed5_eq (c : Dev nD) (t : Fin cfg0.N) (hf : (cfg0.win 5).flush t = true) :
    (dats m 0 c).flushed 5 t = ((cfg0.win 5).blk t).view.read (Elt F) (G5 m c) := by
  show (cfg0.win 5).cut (grid0.coords t) ((dats m 0 c).after 5 t) = _
  rw [after0_5]
  obtain ⟨e0, e1⟩ := idx_facts5 t
  funext y
  have hy0 : (y 0).val < 256 := (y 0).isLt
  have hy1 : (y 1).val < 4096 := (y 1).isLt
  have hb0 : (((cfg0.win 5).blk t).view.emb y 0).val = win0_5.index t (0 : Fin 2) * 256 + 1 * (y 0).val := rfl
  have hb1 : (((cfg0.win 5).blk t).view.emb y 1).val = win0_5.index t (1 : Fin 2) * 4096 + 1 * (y 1).val := rfl
  rw [e0] at hb0
  rw [e1] at hb1
  have hl : (((cfg0.win 5).blk t).view.emb y : S256x4096.Idx) = (cfg0.win 5).xinj (grid0.coords t) y := by
    funext a; apply Fin.ext
    match a with
    | ⟨0, _⟩ => show (((cfg0.win 5).blk t).view.emb y 0).val = (y 0).val; omega
    | ⟨1, _⟩ => show (((cfg0.win 5).blk t).view.emb y 1).val = (y 1).val; omega
  show codesV (xAll m c) ((cfg0.win 5).xinj (grid0.coords t) y) = codesV (xAll m c) (((cfg0.win 5).blk t).view.emb y)
  rw [hl]

/-- An index of the array is in point `t`'s block iff each coordinate is in the block's range on its axis. -/
theorem mem_blk5 (t : Fin cfg0.N) (i : S256x4096.Idx) :
    i ∈ ((cfg0.win 5).blk t).view.set ↔ ∀ a : Fin 2, win0_5.index t a * S256x4096.size a ≤ (i a).val ∧ (i a).val < win0_5.index t a * S256x4096.size a + S256x4096.size a := by
  show i ∈ ((View.whole main_v2_1).slice (win0_5.rect t)).set ↔ _
  rw [View.set_slice_whole, Rect.mem_set_unit]
  exact Iff.rfl

theorem flush5_at : ∀ t : Fin cfg0.N, t.val = 27 → (cfg0.win 5).flush t = true := by decide +kernel

/-- The array after the run. -/
theorem final5 (c : Dev nD) : (dats m 0 c).arrAt 5 cfg0.N = G5 m c :=
  (dats m 0 c).arrAt_eq_of_cover 5 _ (fun t hf => flushed5_eq m c t hf) (fun i => by
    have h0 : (i 0).val < 256 := (i 0).isLt
    have h1 : (i 1).val < 4096 := (i 1).isLt
    let t : Fin cfg0.N := ⟨27, lt_of_lt_of_eq (by decide) (show 28 = cfg0.N from N_0.symm)⟩
    obtain ⟨e0, e1⟩ := idx_facts5 t
    refine ⟨t, flush5_at t rfl, (mem_blk5 t i).2 fun a => ?_⟩
    match a with
    | ⟨0, _⟩ => show win0_5.index t (0 : Fin 2) * 256 ≤ (i 0).val ∧ (i 0).val < win0_5.index t (0 : Fin 2) * 256 + 256; omega
    | ⟨1, _⟩ =>
      show win0_5.index t (1 : Fin 2) * 4096 ≤ (i 1).val ∧ (i 1).val < win0_5.index t (1 : Fin 2) * 4096 + 4096
      rw [e1]; omega)

/-! ## Result 2 -/

/-- What the array ends holding. -/
def G6 (c : Dev nD) : Buf (Elt F) ((c : Thread nD τ).loc main_v2_2) := scaleV (xAll m c)

theorem idx_facts6 : ∀ t : Fin cfg0.N, win0_6.index t (0 : Fin 2) = 0 ∧ win0_6.index t (1 : Fin 2) = 0 :=
  (by decide +kernel : ∀ t : Fin grid0.N, _)

/-- What a flushing point writes back is its block of the array. -/
theorem flushed6_eq (c : Dev nD) (t : Fin cfg0.N) (hf : (cfg0.win 6).flush t = true) :
    (dats m 0 c).flushed 6 t = ((cfg0.win 6).blk t).view.read (Elt F) (G6 m c) := by
  show (cfg0.win 6).cut (grid0.coords t) ((dats m 0 c).after 6 t) = _
  rw [after0_6]
  obtain ⟨e0, e1⟩ := idx_facts6 t
  funext y
  have hy0 : (y 0).val < 256 := (y 0).isLt
  have hy1 : (y 1).val < 128 := (y 1).isLt
  have hb0 : (((cfg0.win 6).blk t).view.emb y 0).val = win0_6.index t (0 : Fin 2) * 256 + 1 * (y 0).val := rfl
  have hb1 : (((cfg0.win 6).blk t).view.emb y 1).val = win0_6.index t (1 : Fin 2) * 128 + 1 * (y 1).val := rfl
  rw [e0] at hb0
  rw [e1] at hb1
  have hl : (((cfg0.win 6).blk t).view.emb y : S256x128.Idx) = (cfg0.win 6).xinj (grid0.coords t) y := by
    funext a; apply Fin.ext
    match a with
    | ⟨0, _⟩ => show (((cfg0.win 6).blk t).view.emb y 0).val = (y 0).val; omega
    | ⟨1, _⟩ => show (((cfg0.win 6).blk t).view.emb y 1).val = (y 1).val; omega
  show scaleV (xAll m c) ((cfg0.win 6).xinj (grid0.coords t) y) = scaleV (xAll m c) (((cfg0.win 6).blk t).view.emb y)
  rw [hl]

/-- An index of the array is in point `t`'s block iff each coordinate is in the block's range on its axis. -/
theorem mem_blk6 (t : Fin cfg0.N) (i : S256x128.Idx) :
    i ∈ ((cfg0.win 6).blk t).view.set ↔ ∀ a : Fin 2, win0_6.index t a * S256x128.size a ≤ (i a).val ∧ (i a).val < win0_6.index t a * S256x128.size a + S256x128.size a := by
  show i ∈ ((View.whole main_v2_2).slice (win0_6.rect t)).set ↔ _
  rw [View.set_slice_whole, Rect.mem_set_unit]
  exact Iff.rfl

theorem flush6_at : ∀ t : Fin cfg0.N, t.val = 27 → (cfg0.win 6).flush t = true := by decide +kernel

/-- The array after the run. -/
theorem final6 (c : Dev nD) : (dats m 0 c).arrAt 6 cfg0.N = G6 m c :=
  (dats m 0 c).arrAt_eq_of_cover 6 _ (fun t hf => flushed6_eq m c t hf) (fun i => by
    have h0 : (i 0).val < 256 := (i 0).isLt
    have h1 : (i 1).val < 128 := (i 1).isLt
    let t : Fin cfg0.N := ⟨27, lt_of_lt_of_eq (by decide) (show 28 = cfg0.N from N_0.symm)⟩
    obtain ⟨e0, e1⟩ := idx_facts6 t
    refine ⟨t, flush6_at t rfl, (mem_blk6 t i).2 fun a => ?_⟩
    match a with
    | ⟨0, _⟩ => show win0_6.index t (0 : Fin 2) * 256 ≤ (i 0).val ∧ (i 0).val < win0_6.index t (0 : Fin 2) * 256 + 256; omega
    | ⟨1, _⟩ =>
      show win0_6.index t (1 : Fin 2) * 128 ≤ (i 1).val ∧ (i 1).val < win0_6.index t (1 : Fin 2) * 128 + 128
      rw [e1]; omega)

/-! ## The run, read -/

theorem post4 (r : PUnit × MemSt nD τ sig (Elt F)) (h : Pipeline.FramePost cfgs (dats m) 0 (V m) r) (c : Dev nD) :
    r.2.mem ((c : Thread nD τ).loc main_v2_0) = (dats m 0 c).arrAt 4 cfg0.N :=
  (h c).1 4
theorem post5 (r : PUnit × MemSt nD τ sig (Elt F)) (h : Pipeline.FramePost cfgs (dats m) 0 (V m) r) (c : Dev nD) :
    r.2.mem ((c : Thread nD τ).loc main_v2_1) = (dats m 0 c).arrAt 5 cfg0.N :=
  (h c).1 5
theorem post6 (r : PUnit × MemSt nD τ sig (Elt F)) (h : Pipeline.FramePost cfgs (dats m) 0 (V m) r) (c : Dev nD) :
    r.2.mem ((c : Thread nD τ).loc main_v2_2) = (dats m 0 c).arrAt 6 cfg0.N :=
  (h c).1 6
/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: input window 2 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 2).trans (((dats m 0 c).arrAt_in 2 rfl _).trans ((A_eq m c 2).trans (V_main_arg1 m c)))

/-- After the frame run, argument `main_arg2` is as launched: input window 3 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 3).trans (((dats m 0 c).arrAt_in 3 rfl _).trans ((A_eq m c 3).trans (V_main_arg2 m c)))

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- The frame run re-posted: each result array at what is stated of it, the arguments unchanged. -/
theorem run : θ_run defs (onTc (τ := τ) (main (F := F))) ⟨m, fun _ => 0, ρ⟩ fun r => ∀ c : Dev nD,
      r.2.mem ((c : Thread nD τ).loc main_v2_0) = G4 m c
      ∧ r.2.mem ((c : Thread nD τ).loc main_v2_1) = G5 m c
      ∧ r.2.mem ((c : Thread nD τ).loc main_v2_2) = G6 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(post4 m r h c).trans (final4 m c),
      (post5 m r h c).trans (final5 m c),
      (post6 m r h c).trans (final6 m c),
      kept_main_arg0 m r h c,
      kept_main_arg1 m r h c,
      kept_main_arg2 m r h c,
      kept_main_arg3 m r h c⟩)
    (run_main m ρ)

end Cert.KernelIdeal.Value

end
-- ==== Proof.KArgs.lean ====
module

public import proofs.«01_k».proof.Proof.KValue
public import Idealize.ShloMosaic.Lib.Pointwise

@[expose] public section

/-! The arrays the kernel's pipeline stages, by the arguments' elements. -/

noncomputable section

namespace Cert.KernelIdeal.Args

open Cert.KernelIdeal Cert.KernelIdeal.Gen Idealize.ShloMosaic Idealize.ShloMosaic.TcCoe

variable (m : (ℓ : Loc nD τ sig) → Buf (Elt Ideal) ℓ) (c : Dev nD)

/-- The activations. -/
def xA : FVec Ideal S1x256x4096 .bf16 := m ((c : Thread nD τ).loc main_arg0)
/-- The packed weights. -/
def wA : IVec S28672x2048 8 := m ((c : Thread nD τ).loc main_arg1)
/-- The weights' scales. -/
def sA : FVec Ideal S28672x256 .fp8e4m3 := m ((c : Thread nD τ).loc main_arg2)
/-- The global scale. -/
def gA : EReal := (m ((c : Thread nD τ).loc main_arg3) : FVec Ideal S_ .f32) (fun a => a.elim0)

theorem V_main_v1 : V m c main_v1 = (shapeCast S256x4096 (xA m c) shapeCasts_S1x256x4096_S256x4096 : FVec Ideal S256x4096 .bf16) := by
  simp only [V, StableHlo.after_cons, StableHlo.after_nil]
  rfl
theorem V_main_v0 : V m c main_v0 = (shapeCast S1 (m ((c : Thread nD τ).loc main_arg3) : FVec Ideal S_ .f32) shapeCasts_S_S1 : FVec Ideal S1 .f32) := by
  simp only [V, StableHlo.after_cons, StableHlo.after_nil]
  rfl

theorem idx_facts0 : ∀ t : Fin cfg0.N, win0_0.index t (0 : Fin 1) = 0 := (by decide +kernel : ∀ t : Fin grid0.N, _)
theorem idx_facts1 : ∀ t : Fin cfg0.N, win0_1.index t (0 : Fin 2) = 0 ∧ win0_1.index t (1 : Fin 2) = 0 := (by decide +kernel : ∀ t : Fin grid0.N, _)
theorem idx_facts2 : ∀ t : Fin cfg0.N, win0_2.index t (0 : Fin 2) = t.val ∧ win0_2.index t (1 : Fin 2) = 0 := (by decide +kernel : ∀ t : Fin grid0.N, _)
theorem idx_facts3 : ∀ t : Fin cfg0.N, win0_3.index t (0 : Fin 2) = t.val ∧ win0_3.index t (1 : Fin 2) = 0 := (by decide +kernel : ∀ t : Fin grid0.N, _)

theorem lt28 (t : Fin cfg0.N) : t.val < 28 := lt_of_lt_of_eq t.isLt (show cfg0.N = 28 from N_0)

theorem cast_x (x : FVec Ideal S1x256x4096 .bf16) (r : Fin 256) (k : Fin 4096) :
    (shapeCast S256x4096 x shapeCasts_S1x256x4096_S256x4096 : FVec Ideal S256x4096 .bf16) (ix2 r k) = x (ix3 0 r k) := by
  pointwise

theorem cast_g (x : FVec Ideal S_ .f32) (i : S1.Idx) :
    (shapeCast S1 x shapeCasts_S_S1 : FVec Ideal S1 .f32) i = x (fun a => a.elim0) :=
  congrArg x (funext fun a => a.elim0)

theorem xAll_apply (r : Fin 256) (k : Fin 4096) : xAll m c (ix2 r k) = xA m c (ix3 0 r k) := by
  rw [← cast_x (xA m c) r k, ← V_main_v1]
  unfold xAll
  generalize (⟨0, _⟩ : Fin cfg0.N) = t
  obtain ⟨e0, e1⟩ := idx_facts1 t
  refine congrArg (V m c main_v1) (funext fun a => ?_)
  match a with
  | ⟨0, _⟩ => exact Fin.ext (by show win0_1.index t (0 : Fin 2) * 256 + 1 * r.val = r.val; omega)
  | ⟨1, _⟩ => exact Fin.ext (by show win0_1.index t (1 : Fin 2) * 4096 + 1 * k.val = k.val; omega)

theorem w_apply (t : Fin cfg0.N) (n : Fin 1024) (k : Fin 2048) : (iblk m c 2 t : Vec Ideal S1024x2048 .i8) (ix2 n k)
    = wA m c (ix2 ⟨1024 * t.val + n.val, by have := lt28 t; omega⟩ k) := by
  unfold wA
  rw [← V_main_arg1 m c]
  obtain ⟨e0, e1⟩ := idx_facts2 t
  refine congrArg (V m c main_arg1) (funext fun a => ?_)
  match a with
  | ⟨0, _⟩ => exact Fin.ext (by show win0_2.index t (0 : Fin 2) * 1024 + 1 * n.val = 1024 * t.val + n.val; omega)
  | ⟨1, _⟩ => exact Fin.ext (by show win0_2.index t (1 : Fin 2) * 2048 + 1 * k.val = k.val; omega)

theorem s_apply (t : Fin cfg0.N) (n : Fin 1024) (k : Fin 256) : (iblk m c 3 t : Vec Ideal S1024x256 .fp8e4m3) (ix2 n k)
    = sA m c (ix2 ⟨1024 * t.val + n.val, by have := lt28 t; omega⟩ k) := by
  unfold sA
  rw [← V_main_arg2 m c]
  obtain ⟨e0, e1⟩ := idx_facts3 t
  refine congrArg (V m c main_arg2) (funext fun a => ?_)
  match a with
  | ⟨0, _⟩ => exact Fin.ext (by show win0_3.index t (0 : Fin 2) * 1024 + 1 * n.val = 1024 * t.val + n.val; omega)
  | ⟨1, _⟩ => exact Fin.ext (by show win0_3.index t (1 : Fin 2) * 256 + 1 * k.val = k.val; omega)

theorem g_apply (t : Fin cfg0.N) : (Tiles.gOf (iblk m c 0 t : Vec Ideal S1 .f32) : EReal) = gA m c := by
  unfold Tiles.gOf
  show V m c main_v0 _ = _
  rw [V_main_v0]
  exact cast_g _ _

end Cert.KernelIdeal.Args

end
-- ==== Proof.ExpField.lean ====
module

public import Idealize.ShloMosaic.PureOps.Ideal

@[expose] public section

/-! A power-of-two scale, two ways: by a binary search for the exponent field of a float32, and by the floor of a base-2
logarithm. -/

noncomputable section

namespace Cert.Quant

open Idealize.ShloMosaic

/-- The value of a float32 word. -/
abbrev f32v (b : BitVec 32) : EReal := Ideal.ofBits .f32 b

/-- The three fields of a word that holds an exponent alone. -/
theorem field_bits : ∀ n : Fin 256, (BitVec.ofNat 32 n.val <<< 23).extractLsb' 31 1 = 0#1
    ∧ ((BitVec.ofNat 32 n.val <<< 23).extractLsb' 23 8).toNat = n.val
    ∧ ((BitVec.ofNat 32 n.val <<< 23).extractLsb' 0 23).toNat = 0 := by decide +kernel

/-- A word with no sign and no fraction is a power of two. -/
theorem ieee_pow (b : BitVec 32) (n : ℕ) (h1 : 1 ≤ n) (h2 : n ≤ 254) (b1 : b.extractLsb' 31 1 = 0#1)
    (b2 : (b.extractLsb' 23 8).toNat = n) (b3 : (b.extractLsb' 0 23).toNat = 0) :
    Ideal.ieee 8 23 b = (((2 : ℝ) ^ ((n : ℤ) - 127) : ℝ) : EReal) := by
  unfold Ideal.ieee
  simp only [show 8 + 23 = 31 from rfl, b1, b2, b3]
  rw [if_neg (by omega), if_neg (by omega)]
  simp only [show ((0#1 : BitVec 1) == 1#1) = false from rfl, if_false, Bool.false_eq_true]
  congr 1
  push_cast
  rw [one_mul, show (8388608 : ℝ) = (2 : ℝ) ^ (23 : ℤ) by norm_num, ← zpow_add₀ (by norm_num : (2 : ℝ) ≠ 0)]
  congr 1
  ring

/-- An exponent field alone is a power of two. -/
theorem f32v_field (n : ℕ) (h1 : 1 ≤ n) (h2 : n ≤ 254) :
    f32v (BitVec.ofNat 32 n <<< 23) = (((2 : ℝ) ^ ((n : ℤ) - 127) : ℝ) : EReal) :=
  ieee_pow _ n h1 h2 (field_bits ⟨n, by omega⟩).1 (field_bits ⟨n, by omega⟩).2.1 (field_bits ⟨n, by omega⟩).2.2

/-- The zero field. -/
theorem f32v_zero : f32v (BitVec.ofNat 32 0 <<< 23) = 0 := by
  rw [show BitVec.ofNat 32 0 <<< 23 = 0x00000000#32 from rfl]; simp [f32v, Ideal.ofBits, Ideal.ieee]

/-- The top field. -/
theorem f32v_top : f32v (BitVec.ofNat 32 255 <<< 23) = ⊤ := by
  rw [show BitVec.ofNat 32 255 <<< 23 = 0x7F800000#32 from rfl]; simp [f32v, Ideal.ofBits, Ideal.ieee]

/-- One step of the search: bit `b` of the field is kept where the word it makes is at most `p`. -/
def expStepS (p : EReal) (b e : BitVec 32) : BitVec 32 := if f32v ((e + b) <<< 23) ≤ p then e + b else e

/-- The search, from the top bit down. -/
def expFieldS (p : EReal) : BitVec 32 :=
  expStepS p 1#32 (expStepS p 2#32 (expStepS p 4#32 (expStepS p 8#32 (expStepS p 16#32 (expStepS p 32#32
    (expStepS p 64#32 (expStepS p 128#32 0#32)))))))

/-- The scale's bits: one more than the field, but 1 at the lowest and the highest field. -/
def scaleBitsS (p : EReal) : BitVec 32 :=
  if expFieldS p <<< 23 = 0#32 ∨ expFieldS p <<< 23 = 2139095040#32 then 1065353216#32 else expFieldS p <<< 23 + 8388608#32

/-- The field is among the `w` from `n` on. -/
def Within (p : EReal) (n w : ℕ) (e : BitVec 32) : Prop :=
  e = BitVec.ofNat 32 n ∧ n + w ≤ 256 ∧ f32v (BitVec.ofNat 32 n <<< 23) ≤ p
    ∧ (n + w < 256 → p < f32v (BitVec.ofNat 32 (n + w) <<< 23))

/-- A step halves the range. -/
theorem Within.step {p : EReal} {n w : ℕ} {e : BitVec 32} (h : Within p n (w + w) e) :
    ∃ n', Within p n' w (expStepS p (BitVec.ofNat 32 w) e) := by
  obtain ⟨rfl, h2, h3, h4⟩ := h
  have ha : BitVec.ofNat 32 n + BitVec.ofNat 32 w = BitVec.ofNat 32 (n + w) := by
    rw [BitVec.ofNat_add]
  unfold expStepS
  rw [ha]
  by_cases hp : f32v (BitVec.ofNat 32 (n + w) <<< 23) ≤ p
  · rw [if_pos hp]
    exact ⟨n + w, rfl, by omega, hp, fun h => by rw [show n + w + w = n + (w + w) by omega]; exact h4 (by omega)⟩
  · rw [if_neg hp]
    exact ⟨n, rfl, by omega, h3, fun _ => not_le.mp hp⟩

/-- The search finds the field. -/
theorem expFieldS_spec (p : EReal) (h0 : 0 ≤ p) : ∃ n, Within p n 1 (expFieldS p) := by
  have h : Within p 0 (128 + 128) 0#32 := ⟨rfl, le_refl _, by rw [f32v_zero]; exact h0, fun h => absurd h (by omega)⟩
  obtain ⟨_, h⟩ := h.step
  obtain ⟨_, h⟩ := Within.step (w := 64) h
  obtain ⟨_, h⟩ := Within.step (w := 32) h
  obtain ⟨_, h⟩ := Within.step (w := 16) h
  obtain ⟨_, h⟩ := Within.step (w := 8) h
  obtain ⟨_, h⟩ := Within.step (w := 4) h
  obtain ⟨_, h⟩ := Within.step (w := 2) h
  exact Within.step (w := 1) h

/-- The exponent of the scale, by the logarithm: 0 below the least normal float32 and at infinity. -/
def expOf (p : EReal) : EReal :=
  if p < f32v 0x00800000#32 ∨ p = f32v 0x7F800000#32 then f32v 0x00000000#32
  else Ideal.liftRound Int.floor (Ideal.div (Ideal.log p) (Ideal.log (f32v 0x40000000#32))) + f32v 0x3F800000#32

/-- The floor of the base-2 logarithm of a real between two neighbouring powers of two. -/
theorem floor_log2 (r : ℝ) (k : ℤ) (h1 : (2 : ℝ) ^ k ≤ r) (h2 : r < (2 : ℝ) ^ (k + 1)) :
    Ideal.liftRound Int.floor (Ideal.div (Ideal.log (r : EReal)) (Ideal.log (f32v 0x40000000#32))) = (((k : ℤ) : ℝ) : EReal) := by
  have hr : 0 < r := lt_of_lt_of_le (zpow_pos (by norm_num) _) h1
  have e2 : f32v 0x40000000#32 = ((2 : ℝ) : EReal) := by
    rw [show (0x40000000#32 : BitVec 32) = BitVec.ofNat 32 128 <<< 23 from rfl, f32v_field 128 (by omega) (by omega)]
    norm_num
  have hl : (0 : ℝ) < Real.log 2 := Real.log_pos (by norm_num)
  rw [e2, Ideal.log_coe, if_neg (not_le.mpr hr), Ideal.log_coe, if_neg (by norm_num)]
  unfold Ideal.div
  rw [if_neg (by exact_mod_cast hl.ne'), ← EReal.coe_inv, ← EReal.coe_mul, Ideal.liftRound_coe]
  congr 2
  rw [Int.floor_eq_iff, ← div_eq_mul_inv]
  constructor
  · rw [le_div_iff₀ hl, ← Real.log_zpow]
    exact Real.log_le_log (zpow_pos (by norm_num) _) h1
  · rw [div_lt_iff₀ hl]
    have := Real.log_lt_log hr h2
    rw [Real.log_zpow] at this
    push_cast at this
    exact this

/-- The words the scale's bits make, at a field in the middle. -/
theorem mid_bits : ∀ n : Fin 248, 1 ≤ n.val → (BitVec.ofNat 32 n.val <<< 23 ≠ 0#32 ∧ BitVec.ofNat 32 n.val <<< 23 ≠ 2139095040#32)
    ∧ BitVec.ofNat 32 n.val <<< 23 + 8388608#32 = BitVec.ofNat 32 (n.val + 1) <<< 23
    ∧ 2130706432#32 - BitVec.ofNat 32 (n.val + 1) <<< 23 = BitVec.ofNat 32 (253 - n.val) <<< 23 := by decide +kernel

theorem exp2_int (k : ℤ) : Ideal.exp2 (((k : ℤ) : ℝ) : EReal) = (((2 : ℝ) ^ k : ℝ) : EReal) := by
  rw [Ideal.exp2_coe]
  congr 1
  exact Real.rpow_intCast 2 k

/-- The two ways to the scale and to its inverse agree, for a value that a float32 of the middle range or infinity is. -/
theorem scale_eq (p : EReal) (h0 : 0 ≤ p) (hp : p ≤ (((2 : ℝ) ^ (120 : ℤ) : ℝ) : EReal) ∨ p = ⊤) :
    f32v (scaleBitsS p) = Ideal.exp2 (expOf p)
      ∧ f32v (2130706432#32 - scaleBitsS p) = Ideal.exp2 (f32v 0x00000000#32 - expOf p) := by
  obtain ⟨n, he, hn, hlo, hhi⟩ := expFieldS_spec p h0
  have z : f32v 0x00000000#32 = 0 := f32v_zero
  have t : f32v 0x7F800000#32 = ⊤ := f32v_top
  have one : f32v 0x3F800000#32 = ((1 : ℝ) : EReal) := by
    rw [show (0x3F800000#32 : BitVec 32) = BitVec.ofNat 32 127 <<< 23 from rfl, f32v_field 127 (by omega) (by omega)]; norm_num
  have tiny : f32v 0x00800000#32 = (((2 : ℝ) ^ (-126 : ℤ) : ℝ) : EReal) := by
    rw [show (0x00800000#32 : BitVec 32) = BitVec.ofNat 32 1 <<< 23 from rfl, f32v_field 1 (by omega) (by omega)]; norm_num
  have x0 : Ideal.exp2 0 = ((1 : ℝ) : EReal) := by
    have := exp2_int 0
    simpa using this
  have hend : (expFieldS p <<< 23 = 0#32 ∨ expFieldS p <<< 23 = 2139095040#32) → expOf p = 0 →
      f32v (scaleBitsS p) = Ideal.exp2 (expOf p)
      ∧ f32v (2130706432#32 - scaleBitsS p) = Ideal.exp2 (f32v 0x00000000#32 - expOf p) := by
    intro h1 h2
    unfold scaleBitsS
    rw [if_pos h1, h2, z, show (0 : EReal) - 0 = 0 by simp, x0]
    exact ⟨one, one⟩
  rcases Nat.eq_zero_or_pos n with rfl | hpos
  · refine hend (Or.inl (by rw [he]; rfl)) ?_
    unfold expOf
    rw [if_pos (Or.inl (show p < f32v 0x00800000#32 from hhi (by omega))), z]
  rcases hp with hp | rfl
  · have hn2 : n ≤ 247 := by
      by_contra hc
      have hn' : n ≤ 255 := by omega
      rcases Nat.lt_or_ge n 255 with h | h
      · rw [f32v_field n hpos (by omega)] at hlo
        have := le_trans hlo hp
        rw [EReal.coe_le_coe_iff] at this
        have := (zpow_le_zpow_iff_right₀ (by norm_num : (1 : ℝ) < 2)).mp this
        omega
      · have : n = 255 := by omega
        subst this
        rw [f32v_top] at hlo
        exact absurd (le_trans hlo hp) (not_le.mpr (EReal.coe_lt_top _))
    obtain ⟨hb1, hb2, hb3⟩ := mid_bits ⟨n, by omega⟩ hpos
    simp only at hb1 hb2 hb3
    have hr : ∃ r : ℝ, p = (r : EReal) := by
      refine ⟨p.toReal, (EReal.coe_toReal ?_ ?_).symm⟩
      · rintro rfl; exact absurd hp (not_le.mpr (EReal.coe_lt_top _))
      · rintro rfl; exact absurd h0 (by simp)
    obtain ⟨r, rfl⟩ := hr
    have hhi := hhi (by omega)
    rw [f32v_field n hpos (by omega), EReal.coe_le_coe_iff] at hlo
    rw [f32v_field (n + 1) (by omega) (by omega), EReal.coe_lt_coe_iff] at hhi
    have hexp : expOf (r : EReal) = ((((n : ℤ) - 126 : ℤ) : ℝ) : EReal) := by
      unfold expOf
      rw [if_neg, floor_log2 r ((n : ℤ) - 127) hlo (by convert hhi using 2; push_cast; ring), one, ← EReal.coe_add]
      · congr 1; push_cast; ring
      · rw [t, tiny, EReal.coe_lt_coe_iff]
        push Not
        refine ⟨le_trans ((zpow_le_zpow_iff_right₀ (by norm_num : (1 : ℝ) < 2)).mpr (by omega)) hlo, EReal.coe_ne_top r⟩
    unfold scaleBitsS
    rw [he, if_neg (by push Not; exact hb1), hb2, hb3, hexp, z, f32v_field (n + 1) (by omega) (by omega),
      f32v_field (253 - n) (by omega) (by omega), exp2_int,
      show (0 : EReal) - ((((n : ℤ) - 126 : ℤ) : ℝ) : EReal) = (((126 - (n : ℤ) : ℤ) : ℝ) : EReal) by
        rw [← EReal.coe_zero, ← EReal.coe_sub]; congr 1; push_cast; ring, exp2_int]
    constructor
    · congr 2; push_cast; ring
    · congr 2; rw [Nat.cast_sub (by omega)]; push_cast; ring
  · refine hend (Or.inr ?_) ?_
    · have : n = 255 := by
        by_contra hc
        exact absurd (hhi (by omega)) (by simp)
      rw [he, this]; rfl
    · unfold expOf
      rw [if_pos (Or.inr t.symm), z]

end Cert.Quant

end
-- ==== Proof.Spec.lean ====
module

public import proofs.«01_k».proof.Proof.ExpField

@[expose] public section

/-! The quantised product, element by element, over the extended reals: what both programs compute. -/

noncomputable section

namespace Cert.Quant

open Idealize.ShloMosaic

variable (X : Fin 256 → Fin 4096 → EReal) (W : Fin 28672 → Fin 2048 → BitVec 8) (S : Fin 28672 → Fin 256 → EReal) (g : EReal)

/-- The magnitude of an extended real. -/
def mag (x : EReal) : EReal := max x (-x)

/-- The largest magnitude of group `q` of row `r`. -/
def amax (r : Fin 256) (q : Fin 128) : EReal :=
  Finset.univ.fold max ⊥ fun k : Fin 32 => mag (X r ⟨32 * q.val + k.val, by omega⟩)

/-- The group's largest magnitude over 448. -/
def ratioX (r : Fin 256) (q : Fin 128) : EReal := amax X r q * f32v 0x3B124925#32

/-- The group's scale. -/
def scaleX (r : Fin 256) (q : Fin 128) : EReal := Ideal.exp2 (expOf (ratioX X r q))

/-- The code of an element. -/
def codeX (r : Fin 256) (c : Fin 4096) : EReal :=
  min (f32v 0x43E00000#32) (max (f32v 0xC3E00000#32)
    (X r c * Ideal.exp2 (f32v 0x00000000#32 - expOf (ratioX X r ⟨c.val / 32, by omega⟩))))

/-- The quantised element. -/
def quantX (r : Fin 256) (c : Fin 4096) : EReal := codeX X r c * scaleX X r ⟨c.val / 32, by omega⟩

/-- The float32 word of a nibble's value, from the nibble in a word's low bits. -/
def nibBits (c : BitVec 32) : BitVec 32 :=
  ((if c &&& 6#32 = 0#32 then (c &&& 1#32) * 16128#32 else (c &&& 7#32) <<< 6 + 16128#32) ||| (c &&& 8#32) <<< 12) <<< 16

/-- The weight of an even column. -/
def weightE (n : Fin 28672) (k : Fin 2048) : EReal :=
  f32v (nibBits ((W n k).setWidth 32 &&& 15#32)) * S n ⟨k.val / 8, by omega⟩

/-- The weight of an odd column. -/
def weightO (n : Fin 28672) (k : Fin 2048) : EReal :=
  f32v (nibBits (((W n k).setWidth 32).sshiftRight 4)) * S n ⟨k.val / 8, by omega⟩

/-- An element of the product. -/
def prodX (r : Fin 256) (n : Fin 28672) : EReal :=
  ((∑ k : Fin 2048, quantX X r ⟨2 * k.val, by omega⟩ * weightE W S n k)
    + ∑ k : Fin 2048, quantX X r ⟨2 * k.val + 1, by omega⟩ * weightO W S n k) * g

end Cert.Quant

end
-- ==== Proof.Nibble.lean ====
module

public import proofs.«01_k».proof.Proof.Contents
public import proofs.«01_k».proof.Proof.Spec
public import Idealize.ShloMosaic.Lib.BitcastFour

@[expose] public section

/-! A nibble's value, two ways: the word of a float32 made from its bits, and 64 times the float8 whose bits the kernel
makes, four bytes at a time in one word. -/

noncomputable section

namespace Cert.Quant

open Idealize.ShloMosaic

/-- The float8 bits of the low nibble of a byte. -/
def loByte (b : BitVec 8) : BitVec 8 := (b <<< 2 &&& 0x1C#8) ||| (b <<< 4 &&& 0x80#8)
/-- The float8 bits of the high nibble of a byte. -/
def hiByte (b : BitVec 8) : BitVec 8 := (b >>> 2 &&& 0x1C#8) ||| (b &&& 0x80#8)

/-- The same of a word's four bytes. -/
def loWord (w : BitVec 32) : BitVec 32 := (w <<< 2 &&& 471604252#32) ||| (w <<< 4 &&& 2155905152#32)
def hiWord (w : BitVec 32) : BitVec 32 := (w >>> 2 &&& 471604252#32) ||| (w &&& 2155905152#32)

/-- The low nibble's value. -/
theorem nibLo : ∀ b : Fin 256, ∃ c : Fin 16, loByte (BitVec.ofNat 8 b.val) = loByte (BitVec.ofNat 8 c.val)
    ∧ nibBits ((BitVec.ofNat 8 b.val).setWidth 32 &&& 15#32) = nibBits (BitVec.ofNat 32 c.val) := by decide +kernel
theorem nibHi : ∀ b : Fin 256, ∃ c : Fin 16, hiByte (BitVec.ofNat 8 b.val) = loByte (BitVec.ofNat 8 c.val)
    ∧ nibBits (((BitVec.ofNat 8 b.val).setWidth 32).sshiftRight 4) = nibBits (BitVec.ofNat 32 c.val) := by decide +kernel

/-- The value of each of the sixteen nibbles. -/
theorem nibVal (c : Fin 16) : Ideal.ofBits .fp8e4m3 (loByte (BitVec.ofNat 8 c.val)) * f32v 0x42800000#32
    = f32v (nibBits (BitVec.ofNat 32 c.val)) := by
  fin_cases c <;> simp [loByte, nibBits, f32v, Ideal.ofBits, Ideal.e4m3fn, Ideal.ieee] <;> norm_cast <;> norm_num

theorem lo_val (b : BitVec 8) : Ideal.ofBits .fp8e4m3 (loByte b) * f32v 0x42800000#32 = f32v (nibBits (b.setWidth 32 &&& 15#32)) := by
  obtain ⟨c, h1, h2⟩ := nibLo ⟨b.toNat, b.isLt⟩
  simp only [BitVec.ofNat_toNat, BitVec.setWidth_eq] at h1 h2
  rw [h1, h2, nibVal]

theorem hi_val (b : BitVec 8) :
    Ideal.ofBits .fp8e4m3 (hiByte b) * f32v 0x42800000#32 = f32v (nibBits ((b.setWidth 32).sshiftRight 4)) := by
  obtain ⟨c, h1, h2⟩ := nibHi ⟨b.toNat, b.isLt⟩
  simp only [BitVec.ofNat_toNat, BitVec.setWidth_eq] at h1 h2
  rw [h1, h2, nibVal]

/-- A byte of a word of low nibbles. -/
theorem lo_byte (w : BitVec 32) (k : ℕ) (hk : k < 4) : (loWord w).extractLsb' (8 * k) 8 = loByte (w.extractLsb' (8 * k) 8) := by
  apply BitVec.eq_of_getLsbD_eq
  intro q hq
  unfold loWord loByte
  simp only [BitVec.getLsbD_extractLsb', BitVec.getLsbD_or, BitVec.getLsbD_and, BitVec.getLsbD_shiftLeft]
  interval_cases k <;> interval_cases q <;> simp

/-- A byte of a word of high nibbles. -/
theorem hi_byte (w : BitVec 32) (k : ℕ) (hk : k < 4) : (hiWord w).extractLsb' (8 * k) 8 = hiByte (w.extractLsb' (8 * k) 8) := by
  apply BitVec.eq_of_getLsbD_eq
  intro q hq
  unfold hiWord hiByte
  simp only [BitVec.getLsbD_extractLsb', BitVec.getLsbD_or, BitVec.getLsbD_and, BitVec.getLsbD_ushiftRight]
  interval_cases k <;> interval_cases q <;> simp

/-! ## A tile of bytes and its words -/

section
variable {R n : ℕ}

/-- The byte at row `p`, from the word that holds it. -/
theorem byte_of_words (x : (⟨2, ![R, n]⟩ : Shape).Idx → BitVec 32) {R' : ℕ}
    (h : (⟨2, ![R, n]⟩ : Shape).Bitcasts 32 ⟨2, ![R', n]⟩ 8) (p : Fin R') (a : Fin R) (l : Fin n) (hp : p.val / 4 = a.val) :
    bitcast ⟨2, ![R', n]⟩ 8 x h (ValueIdx.ix2 p l) = (x (ValueIdx.ix2 a l)).extractLsb' (8 * (p.val % 4)) 8 := by
  apply BitVec.eq_of_getLsbD_eq
  intro q hq
  rw [bitcast_getLsbD x h _ q hq (by decide), BitVec.getLsbD_extractLsb', decide_eq_true hq, Bool.true_and]
  have hr : (⟨2, ![R', n]⟩ : Shape).row (ValueIdx.ix2 p l) = p.val := rfl
  have e1 : ((⟨2, ![R', n]⟩ : Shape).row (ValueIdx.ix2 p l) * 8 + q) % 32 = 8 * (p.val % 4) + q := by rw [hr]; omega
  have e2 : ((⟨2, ![R', n]⟩ : Shape).row (ValueIdx.ix2 p l) * 8 + q) / 32 = a.val := by rw [hr]; omega
  rw [e1]
  congr 2
  funext c
  match c with
  | ⟨0, _⟩ => exact Fin.ext ((h.srcIdx_row _ _ _ ⟨0, Nat.zero_lt_two⟩ rfl).trans e2)
  | ⟨1, _⟩ => exact Fin.ext (h.srcIdx_other _ _ _ ⟨1, Nat.one_lt_two⟩ (by show ¬ 1 + 2 = 2; omega))

/-- A byte of the word that four rows make. -/
theorem byte_in_word (x : (⟨2, ![R, n]⟩ : Shape).Idx → BitVec 8) {r : ℕ}
    (h : (⟨2, ![R, n]⟩ : Shape).Bitcasts 8 ⟨2, ![r, n]⟩ 32) (p : Fin R) (a : Fin r) (l : Fin n) (hp : p.val / 4 = a.val) :
    (bitcast ⟨2, ![r, n]⟩ 32 x h (ValueIdx.ix2 a l)).extractLsb' (8 * (p.val % 4)) 8 = x (ValueIdx.ix2 p l) := by
  apply BitVec.eq_of_getLsbD_eq
  intro q hq
  rw [BitVec.getLsbD_extractLsb', decide_eq_true hq, Bool.true_and,
    bitcast_8_32_getLsbD_ix2 x h a l _ (by omega) p (by omega)]
  congr 1
  omega
end

end Cert.Quant

end
-- ==== Proof.KLanes.lean ====
module

public import proofs.«01_k».proof.Proof.Contents
public import proofs.«01_k».proof.Proof.Spec
public import Idealize.ShloMosaic.Lib.Pointwise

@[expose] public section

/-! Reading the kernel's tiles at a row and a lane: the lane's number, the gather of lanes, one step of the butterfly. -/

noncomputable section

namespace Cert.KernelIdeal.Point

open Idealize.ShloMosaic Cert.KernelIdeal.Gen Cert.KernelIdeal.Tiles Cert.Quant

/-- The lane's number at a lane. -/
theorem lane_apply (r : Fin 256) (l : Fin 128) : (lane : IVec S256x128 32) (ix2 r l) = BitVec.ofNat 32 l.val := by
  unfold lane
  pointwise

theorem toNat_lane (k : Fin 128) : (BitVec.ofNat 32 k.val).toNat % 128 = k.val := by
  rw [BitVec.toNat_ofNat]; omega
theorem not_neg_lane : ∀ k : Fin 128, IntOp.cmpi .slt (BitVec.ofNat 32 k.val) 0#32 ≠ 1 := by decide +kernel

/-- A gather at a lane whose index is in the row. -/
theorem gather_apply {α : Type} (v : S256x128.Idx → α) (idx : IVec S256x128 32) (r : Fin 256) (l k : Fin 128)
    (h : idx (ix2 r l) = BitVec.ofNat 32 k.val) : gather v idx (ix2 r l) = v (ix2 r k) := by
  have hk := not_neg_lane k
  have ht := toNat_lane k
  unfold gather
  pointwise
  simp only [h, Scalar.select, if_neg hk]
  congr 1
  unfold ix2
  funext a
  match a with
  | ⟨0, _⟩ => rfl
  | ⟨1, _⟩ => exact Fin.ext ht

/-- The same of bfloat16 values. -/
theorem gatherB_apply (v : FVec Ideal S256x128 .bf16) (idx : IVec S256x128 32) (r : Fin 256) (l k : Fin 128)
    (h : idx (ix2 r l) = BitVec.ofNat 32 k.val) : gatherB v idx (ix2 r l) = v (ix2 r k) :=
  gather_apply (v : S256x128.Idx → EReal) idx r l k h

/-- Lane `l ^ n`. -/
def flip (l : Fin 128) (n : ℕ) : Fin 128 := ⟨(l.val ^^^ n) % 128, Nat.mod_lt _ (by decide)⟩

/-- Distances of the butterfly. -/
abbrev dist (j : Fin 5) : ℕ := 2 ^ j.val

theorem flip_word : ∀ (j : Fin 5) (l : Fin 128),
    IntOp.xori (BitVec.ofNat 32 l.val) (BitVec.ofNat 32 (dist j)) = BitVec.ofNat 32 (flip l (dist j)).val := by decide +kernel
theorem upper_word : ∀ (j : Fin 5) (l : Fin 128),
    (IntOp.cmpi .ne (IntOp.andi (BitVec.ofNat 32 l.val) (BitVec.ofNat 32 (dist j))) 0#32 = 1) ↔ l.val / dist j % 2 = 1 := by decide +kernel
theorem flip_bit : ∀ (j : Fin 5) (l : Fin 128), (flip l (dist j)).val / dist j % 2 = 1 - l.val / dist j % 2 := by decide +kernel
theorem flip_high : ∀ (j : Fin 5) (l : Fin 128),
    (flip l (dist j)).val % 32 / (dist j + dist j) = l.val % 32 / (dist j + dist j) := by decide +kernel

/-- One step of the butterfly at a lane. -/
theorem merge_apply (j : Fin 5) (a b : FVec Ideal S256x128 .bf16) (r : Fin 256) (l : Fin 128) :
    merge (BitVec.ofNat 32 (dist j)) a b (ix2 r l)
      = if l.val / dist j % 2 = 1 then max (b (ix2 r l)) (b (ix2 r (flip l (dist j))))
        else max (a (ix2 r l)) (a (ix2 r (flip l (dist j)))) := by
  have hx : (xori lane (broadcast S256x128 (BitVec.ofNat 32 (dist j))) : IVec S256x128 32) (ix2 r l)
      = BitVec.ofNat 32 (flip l (dist j)).val := by
    rw [← flip_word j l, ← lane_apply r l]; rfl
  have hu : ∀ l, (upper (BitVec.ofNat 32 (dist j)) (ix2 r l) = 1) ↔ l.val / dist j % 2 = 1 := by
    intro l
    rw [← upper_word j l, ← lane_apply r l]; rfl
  have hs : ∀ (x y : FVec Ideal S256x128 .bf16) l, (select (upper (BitVec.ofNat 32 (dist j))) x y : FVec Ideal S256x128 .bf16) (ix2 r l)
      = if l.val / dist j % 2 = 1 then x (ix2 r l) else y (ix2 r l) := by
    intro x y l
    show (if upper (BitVec.ofNat 32 (dist j)) (ix2 r l) = 1 then x (ix2 r l) else y (ix2 r l)) = _
    simp only [hu l]
  show max (select (upper (BitVec.ofNat 32 (dist j))) b a (ix2 r l)) (gatherB _ _ (ix2 r l)) = _
  rw [gatherB_apply _ _ r l _ hx, hs, hs, flip_bit]
  by_cases h : l.val / dist j % 2 = 1
  · simp [h]
  · have : l.val / dist j % 2 = 0 := by omega
    simp [this]

end Cert.KernelIdeal.Point

end
-- ==== Proof.KMax.lean ====
module

public import proofs.«01_k».proof.Proof.KLanes

@[expose] public section

/-! The butterfly of lane exchanges leaves each group's largest magnitude in one lane. -/

noncomputable section

namespace Cert.KernelIdeal.Point

open Idealize.ShloMosaic Cert.KernelIdeal.Gen Cert.KernelIdeal.Tiles Cert.Quant

variable (X : Fin 32 → Vec Ideal S256x128 .bf16) (r : Fin 256)

/-- Tiles `a` of the level of `n` tiles hold maxima: lane `l` of tile `t`, of the lanes `l ^ e`, `e` a multiple of `n`
    below 32, of the input tile that `t` and the lane's high bits name. -/
def Holds (n : ℕ) (a : Fin n → FVec Ideal S256x128 .bf16) : Prop :=
  ∀ (t : Fin n) (l : Fin 128) (y : EReal), (a t (ix2 r l) : EReal) ≤ y ↔
    ∀ e : Fin 32, n ∣ e.val → ∀ u : Fin 32, u.val = t.val + l.val % 32 / n * n → mag (X u (ix2 r (flip l e.val))) ≤ y

theorem absT_apply (v : Vec Ideal S256x128 .bf16) (l : Fin 128) : absT v (ix2 r l) = mag (v (ix2 r l)) := by
  show mag (shapeCast S256x128 v shapeCasts_S256x128_S256x128 (ix2 r l)) = _
  rw [shapeCast_id]

/-- The input holds itself. -/
theorem holds_start : Holds X r 32 fun t => absT (X t) := by
  intro t l y
  show (absT (X t) (ix2 r l) : EReal) ≤ y ↔ _
  rw [absT_apply]
  constructor
  · intro h e he u hu
    have e0 : e.val = 0 := Nat.eq_zero_of_dvd_of_lt he e.isLt
    have hl : flip l e.val = l := Fin.ext (by show (l.val ^^^ e.val) % 128 = l.val; rw [e0, Nat.xor_zero]; omega)
    have hu : u = t := Fin.ext (by omega)
    rw [hl, hu]; exact h
  · intro h
    have := h 0 (dvd_zero _) t (by have := t.isLt; omega)
    have hl : flip l (0 : Fin 32).val = l := Fin.ext (by show (l.val ^^^ 0) % 128 = l.val; rw [Nat.xor_zero]; omega)
    rwa [hl] at this

theorem flip_mul : ∀ (j : Fin 5) (e : Fin 32), dist j ∣ e.val →
    (dist j + dist j ∣ e.val) ∨ (dist j + dist j ∣ e.val ^^^ dist j ∧ e.val ^^^ dist j < 32) := by decide +kernel
theorem flip_mul' : ∀ (j : Fin 5) (e : Fin 32), dist j + dist j ∣ e.val → dist j ∣ e.val ∧ dist j ∣ e.val ^^^ dist j ∧ e.val ^^^ dist j < 32 := by
  decide +kernel
theorem flip_flip (l : Fin 128) (a b : ℕ) : flip (flip l a) b = flip l (b ^^^ a) := by
  apply Fin.ext
  show ((l.val ^^^ a) % 2 ^ 7 ^^^ b) % 2 ^ 7 = (l.val ^^^ (b ^^^ a)) % 2 ^ 7
  apply Nat.eq_of_testBit_eq
  intro i
  simp only [Nat.testBit_mod_two_pow, Nat.testBit_xor]
  by_cases h : i < 7 <;> simp [h]
  cases l.val.testBit i <;> cases a.testBit i <;> cases b.testBit i <;> rfl

/-- A level of the butterfly. -/
theorem holds_level (j : Fin 5) (a : Fin (dist j + dist j) → FVec Ideal S256x128 .bf16) (h : Holds X r (dist j + dist j) a) :
    Holds X r (dist j) (level (dist j) a) := by
  intro t l y
  have hpos : 0 < dist j := Nat.two_pow_pos _
  show (merge (BitVec.ofNat 32 (dist j)) (a ⟨t.val, _⟩) (a ⟨t.val + dist j, _⟩) (ix2 r l) : EReal) ≤ y ↔ _
  rw [merge_apply]
  -- the tile the lane's own bit picks
  have key : ∀ s : Fin (dist j + dist j), s.val = t.val + l.val / dist j % 2 * dist j →
      ((max (a s (ix2 r l)) (a s (ix2 r (flip l (dist j)))) : EReal) ≤ y ↔
        ∀ e : Fin 32, dist j ∣ e.val → ∀ u : Fin 32, u.val = t.val + l.val % 32 / dist j * dist j → mag (X u (ix2 r (flip l e.val))) ≤ y) := by
    intro s hs
    have hh := flip_high j l
    have hd : s.val + l.val % 32 / (dist j + dist j) * (dist j + dist j) = t.val + l.val % 32 / dist j * dist j := by
      have h1 : l.val % 32 / dist j / 2 = l.val % 32 / (dist j + dist j) := by rw [Nat.div_div_eq_div_mul]; congr 1; omega
      have h2 : l.val % 32 / dist j % 2 = l.val / dist j % 2 := by
        rcases j with ⟨j, hj⟩
        show l.val % 32 / 2 ^ j % 2 = l.val / 2 ^ j % 2
        interval_cases j <;> omega
      rw [hs, ← h1, ← h2]
      have := Nat.div_add_mod (l.val % 32 / dist j) 2
      generalize l.val % 32 / dist j = q at *
      have e : q * dist j = (2 * (q / 2) + q % 2) * dist j := by rw [this]
      rw [e]; ring
    have hlt : dist j < 32 := by
      rcases j with ⟨j, hj⟩
      show 2 ^ j < 32
      interval_cases j <;> omega
    rw [max_le_iff, h, h]
    constructor
    · rintro ⟨ha, hb⟩ e he u hu
      rcases flip_mul j e he with h1 | ⟨h1, h2⟩
      · exact ha e h1 u (by rw [hd]; exact hu)
      · have := hb ⟨_, h2⟩ h1 u (by rw [hh, hd]; exact hu)
        rw [flip_flip] at this
        simpa [Nat.xor_assoc] using this
    · intro hc
      refine ⟨fun e he u hu => hc e (flip_mul' j e he).1 u (by rw [← hd]; exact hu), fun e he u hu => ?_⟩
      rw [flip_flip]
      refine hc ⟨_, (flip_mul' j e he).2.2⟩ (flip_mul' j e he).2.1 u ?_
      rw [← hd, hu, hh]
  by_cases hb : l.val / dist j % 2 = 1
  · rw [if_pos hb]
    exact key ⟨t.val + dist j, by omega⟩ (by rw [hb, Nat.one_mul])
  · rw [if_neg hb]
    exact key ⟨t.val, by omega⟩ (by rw [show l.val / dist j % 2 = 0 by omega]; simp)

/-- The lane of member `k` of the lane's group. -/
def member (l : Fin 128) (k : Fin 32) : Fin 128 := ⟨l.val / 32 * 32 + k.val, by omega⟩

theorem member_word : ∀ (l : Fin 128) (k : Fin 32), (flip l ((l.val % 32 ^^^ k.val) % 32)).val = l.val / 32 * 32 + k.val
    ∧ (flip l k.val).val = l.val / 32 * 32 + (l.val % 32 ^^^ k.val) % 32 := by decide +kernel

theorem flip_member (l : Fin 128) (k : Fin 32) : ∃ e : Fin 32, flip l e.val = member l k :=
  ⟨⟨(l.val % 32 ^^^ k.val) % 32, Nat.mod_lt _ (by decide)⟩, Fin.ext (member_word l k).1⟩
theorem member_flip (l : Fin 128) (e : Fin 32) : ∃ k : Fin 32, flip l e.val = member l k :=
  ⟨⟨(l.val % 32 ^^^ e.val) % 32, Nat.mod_lt _ (by decide)⟩, Fin.ext (member_word l e).2⟩

/-- Lane `l` of the butterfly of 32 tiles holds the largest magnitude of group `l / 32` of tile `l % 32`. -/
theorem groupMax_apply (l : Fin 128) : groupMax X (ix2 r l)
    = Finset.univ.fold max ⊥ fun k : Fin 32 => mag (X ⟨l.val % 32, Nat.mod_lt _ (by decide)⟩ (ix2 r (member l k))) := by
  have h := holds_level X r 0 _ (holds_level X r 1 _ (holds_level X r 2 _ (holds_level X r 3 _ (holds_level X r 4 _ (holds_start X r)))))
  refine eq_of_forall_ge_iff fun y => ?_
  rw [Finset.fold_max_le]
  refine (h 0 l y).trans ?_
  have hu : ∀ u : Fin 32, u.val = (0 : Fin 1).val + l.val % 32 / dist 0 * dist 0 → u = ⟨l.val % 32, Nat.mod_lt _ (by decide)⟩ := by
    intro u hu
    refine Fin.ext (hu.trans ?_)
    show 0 + l.val % 32 / 1 * 1 = l.val % 32
    omega
  constructor
  · intro hc
    refine ⟨bot_le, fun k _ => ?_⟩
    obtain ⟨e, he⟩ := flip_member l k
    rw [← he]
    exact hc e (one_dvd _) _ (by show l.val % 32 = 0 + l.val % 32 / 1 * 1; omega)
  · rintro ⟨-, hc⟩ e - u hue
    obtain ⟨k, hk⟩ := member_flip l e
    rw [hk, hu u hue]
    exact hc k (Finset.mem_univ _)

end Cert.KernelIdeal.Point

end
-- ==== Proof.KScale.lean ====
module

public import proofs.«01_k».proof.Proof.KMax

@[expose] public section

/-! The kernel's scales, element by element. -/

noncomputable section

namespace Cert.KernelIdeal.Point

open Idealize.ShloMosaic Cert.KernelIdeal.Gen Cert.KernelIdeal.Tiles Cert.Quant

/-! ## The scale's bits -/

theorem shli_vec (x : BitVec 32) (k : ℕ) (hk : k < 32) : IntOp.shli ArithUnit.vector x (BitVec.ofNat 32 k) = x <<< k := by
  unfold IntOp.shli
  have : (BitVec.ofNat 32 k).toNat = k := by rw [BitVec.toNat_ofNat]; omega
  rw [if_pos (by omega)]
  show x <<< (BitVec.ofNat 32 k).toNat = _
  rw [this]

theorem expStep_apply (p : FVec Ideal S256x128 .f32) (b : BitVec 32) (e : IVec S256x128 32) (i : S256x128.Idx) :
    expStep p b e i = expStepS (p i) b (e i) := by
  show (if Ideal.cmp .oge (p i) (f32v (IntOp.shli ArithUnit.vector (e i + b) (BitVec.ofNat 32 23))) = 1 then e i + b else e i) = _
  rw [shli_vec _ 23 (by omega)]
  unfold expStepS Ideal.cmp
  generalize f32v ((e i + b) <<< 23) = q
  by_cases h : q ≤ p i <;> simp [h]

theorem expField_apply (p : FVec Ideal S256x128 .f32) (i : S256x128.Idx) : expField p i = expFieldS (p i) := by
  unfold expField expFieldS
  simp only [expStep_apply]
  rfl

theorem scaleBits_apply (p : FVec Ideal S256x128 .f32) (i : S256x128.Idx) : scaleBits p i = scaleBitsS (p i) := by
  show (if IntOp.ori (IntOp.cmpi .eq (IntOp.shli ArithUnit.vector (expField p i) (BitVec.ofNat 32 23)) 0#32)
      (IntOp.cmpi .eq (IntOp.shli ArithUnit.vector (expField p i) (BitVec.ofNat 32 23)) 2139095040#32) = 1 then 1065353216#32
    else IntOp.shli ArithUnit.vector (expField p i) (BitVec.ofNat 32 23) + 8388608#32) = _
  rw [shli_vec _ 23 (by omega), expField_apply]
  unfold scaleBitsS
  generalize expFieldS (p i) <<< 23 = q
  have e1 : ∀ z : BitVec 32, IntOp.cmpi .eq q z = BitVec.ofBool (decide (q = z)) := fun z => by
    show BitVec.ofBool (q == z) = _; rw [beq_eq_decide]
  rw [e1, e1]
  by_cases h1 : q = 0#32 <;> by_cases h2 : q = 2139095040#32 <;> simp [IntOp.ori, h1, h2]

/-! ## The activations -/

/-- The activations by row and column. -/
def xOf (X : Vec Ideal S256x4096 .bf16) : Fin 256 → Fin 4096 → EReal := fun r c => X (ix2 r c)

theorem tileX_apply (X : Vec Ideal S256x4096 .bf16) (u : Fin 32) (r : Fin 256) (l : Fin 128) :
    tileX X u (ix2 r l) = xOf X r ⟨128 * u.val + l.val, by omega⟩ := by
  unfold tileX xOf
  refine congrArg X (funext fun a => ?_)
  match a with
  | ⟨0, _⟩ => exact Fin.ext (by show 0 + 1 * r.val = r.val; omega)
  | ⟨1, _⟩ => exact Fin.ext (by show 128 * u.val + 1 * l.val = 128 * u.val + l.val; omega)

/-- The group whose scale lane `l` holds. -/
def groupOf (l : Fin 128) : Fin 128 := ⟨4 * (l.val % 32) + l.val / 32, by omega⟩

theorem SB_apply (X : Vec Ideal S256x4096 .bf16) (r : Fin 256) (l : Fin 128) :
    SB X (ix2 r l) = scaleBitsS (ratioX (xOf X) r (groupOf l)) := by
  unfold SB sbits
  rw [scaleBits_apply]
  show scaleBitsS (groupMax (tileX X) (ix2 r l) * f32v 0x3B124925#32) = _
  rw [groupMax_apply]
  unfold ratioX amax
  congr 2
  congr 1
  funext k
  rw [tileX_apply]
  congr 2
  exact Fin.ext (by show 128 * (l.val % 32) + (l.val / 32 * 32 + k.val) = 32 * (4 * (l.val % 32) + l.val / 32) + k.val; omega)

/-! ## The scales -/

/-- The lane of group `q`. -/
def laneOf (q : Fin 128) : Fin 128 := ⟨q.val % 4 * 32 + q.val / 4, by omega⟩

theorem scaleIdx_word : ∀ q : Fin 128, IntOp.addi (IntOp.muli (IntOp.andi (BitVec.ofNat 32 q.val) 3#32) 32#32)
    (IntOp.shrsi ArithUnit.vector (BitVec.ofNat 32 q.val) 2#32) = BitVec.ofNat 32 (laneOf q).val := by decide +kernel
theorem group_lane : ∀ q : Fin 128, groupOf (laneOf q) = q := by decide +kernel

theorem scaleV_bits (X : Vec Ideal S256x4096 .bf16) (r : Fin 256) (q : Fin 128) :
    scaleV X (ix2 r q) = f32v (scaleBitsS (ratioX (xOf X) r q)) := by
  unfold scaleV scaleT
  have hx : scaleIdx (ix2 r q) = BitVec.ofNat 32 (laneOf q).val := by
    rw [← scaleIdx_word q, ← lane_apply r q]; rfl
  rw [gather_apply _ _ r q _ hx]
  show f32v (SB X (ix2 r (laneOf q))) = _
  rw [SB_apply, group_lane]

end Cert.KernelIdeal.Point

end
-- ==== Proof.KQuant.lean ====
module

public import proofs.«01_k».proof.Proof.KScale

@[expose] public section

/-! The kernel's codes, element by element. -/

noncomputable section

namespace Cert.KernelIdeal.Point

open Idealize.ShloMosaic Cert.KernelIdeal.Gen Cert.KernelIdeal.Tiles Cert.Quant

/-! ## The codes -/

/-- The lane whose scale an element of tile `u` uses. -/
def laneIn (u : Fin 32) (l : Fin 128) : Fin 128 := ⟨l.val / 32 * 32 + u.val, by omega⟩

theorem tileIdx_word : ∀ (u : Fin 32) (l : Fin 128),
    IntOp.addi (IntOp.andi (BitVec.ofNat 32 l.val) 96#32) (BitVec.ofNat 32 u.val) = BitVec.ofNat 32 (laneIn u l).val := by decide +kernel

theorem tileBits_apply (X : Vec Ideal S256x4096 .bf16) (u : Fin 32) (r : Fin 256) (l : Fin 128) :
    tileBits (SB X) (BitVec.ofNat 32 u.val) (ix2 r l)
      = scaleBitsS (ratioX (xOf X) r ⟨(128 * u.val + l.val) / 32, by omega⟩) := by
  unfold tileBits
  have hx : (addi (andi lane (broadcast S256x128 96#32)) (broadcast S256x128 (BitVec.ofNat 32 u.val)) : IVec S256x128 32) (ix2 r l)
      = BitVec.ofNat 32 (laneIn u l).val := by
    rw [← tileIdx_word u l, ← lane_apply r l]; rfl
  rw [gather_apply _ _ r l _ hx, SB_apply]
  congr 2
  exact Fin.ext (by
    show 4 * ((l.val / 32 * 32 + u.val) % 32) + (l.val / 32 * 32 + u.val) / 32 = (128 * u.val + l.val) / 32
    omega)

/-- The condition under which the kernel's words hold the scale and its inverse. -/
def Ok (X : Fin 256 → Fin 4096 → EReal) : Prop :=
  ∀ r q, f32v (scaleBitsS (ratioX X r q)) = scaleX X r q
    ∧ f32v (2130706432#32 - scaleBitsS (ratioX X r q)) = Ideal.exp2 (f32v 0x00000000#32 - expOf (ratioX X r q))

theorem clipT_apply (lo hi x inv : FVec Ideal S256x128 .bf16) (i : S256x128.Idx) :
    (truncf .fp8e4m3 (minimumf hi (maximumf lo (mulf x inv))) bitsLt_fp8e4m3_bf16 : FVec Ideal S256x128 .fp8e4m3) i
      = min (hi i) (max (lo i) (x i * inv i)) := rfl

theorem clipC_apply (b : BitVec 32) (i : S256x128.Idx) : (clipC b : FVec Ideal S256x128 .bf16) i = f32v b := rfl

theorem inv_apply (c : BitVec 32) (sb : IVec S256x128 32) (i : S256x128.Idx) :
    (truncf .bf16 (bitcastToFloat .f32 (subi (broadcast S256x128 c) sb) : FVec Ideal S256x128 .f32)
        bitsLt_bf16_f32 : FVec Ideal S256x128 .bf16) i = f32v (c - sb i) := rfl

theorem codesT_apply (sb : IVec S256x128 32) (x : Vec Ideal S256x128 .bf16) (i : S256x128.Idx) :
    codesT sb x i = min (f32v 0x43E00000#32) (max (f32v 0xC3E00000#32) (x i * f32v (2130706432#32 - sb i))) := by
  unfold codesT
  rw [shapeCast_id, clipT_apply, inv_apply, clipC_apply, clipC_apply]

theorem xsT_apply (sb : IVec S256x128 32) (x : Vec Ideal S256x128 .bf16) (i : S256x128.Idx) :
    xsT sb x i = codesT sb x i * f32v (sb i) := rfl

theorem codesP_apply (X : Vec Ideal S256x4096 .bf16) (h : Ok (xOf X)) (u : Fin 32) (r : Fin 256) (l : Fin 128) :
    codesP X u (ix2 r l) = codeX (xOf X) r ⟨128 * u.val + l.val, by omega⟩ := by
  unfold codesP codeX
  rw [codesT_apply, tileX_apply, tileBits_apply, (h _ _).2]

theorem xsP_apply (X : Vec Ideal S256x4096 .bf16) (h : Ok (xOf X)) (u : Fin 32) (r : Fin 256) (l : Fin 128) :
    xsP X u (ix2 r l) = quantX (xOf X) r ⟨128 * u.val + l.val, by omega⟩ := by
  have e : xsP X u (ix2 r l) = codesP X u (ix2 r l) * f32v (tileBits (SB X) (BitVec.ofNat 32 u.val) (ix2 r l)) := by
    unfold xsP codesP
    exact xsT_apply _ _ _
  rw [e, codesP_apply X h, tileBits_apply, (h _ _).1]
  unfold quantX
  rfl

theorem codesV_apply (X : Vec Ideal S256x4096 .bf16) (h : Ok (xOf X)) (r : Fin 256) (c : Fin 4096) :
    codesV X (ix2 r c) = codeX (xOf X) r c := by
  have := codesP_apply X h ⟨c.val / 128, by omega⟩ r ⟨c.val % 128, by omega⟩
  refine Eq.trans ?_ (this.trans ?_)
  · unfold codesV cols
    rfl
  · congr 1
    exact Fin.ext (by show 128 * (c.val / 128) + c.val % 128 = c.val; omega)

end Cert.KernelIdeal.Point

end
-- ==== Proof.KHalf.lean ====
module

public import proofs.«01_k».proof.Proof.KQuant

@[expose] public section

/-! The kernel's halves of the quantised activations, element by element. -/

noncomputable section

namespace Cert.KernelIdeal.Point

open Idealize.ShloMosaic Cert.KernelIdeal.Gen Cert.KernelIdeal.Tiles Cert.Quant

/-! ## The halves -/

/-- The lane a half's lane comes from. -/
def pickLane (o : Fin 2) (l : Fin 128) : Fin 128 := ⟨2 * (l.val % 64) + o.val, by omega⟩

theorem pickE_word : ∀ l : Fin 128, IntOp.andi (IntOp.muli (BitVec.ofNat 32 l.val) 2#32) 127#32 = BitVec.ofNat 32 (pickLane 0 l).val := by
  decide +kernel
theorem pickO_word : ∀ l : Fin 128, IntOp.addi (IntOp.andi (IntOp.muli (BitVec.ofNat 32 l.val) 2#32) 127#32) 1#32
    = BitVec.ofNat 32 (pickLane 1 l).val := by
  decide +kernel
theorem low_word : ∀ l : Fin 128, (IntOp.cmpi .slt (BitVec.ofNat 32 l.val) 64#32 = 1) ↔ l.val < 64 := by decide +kernel

theorem pickE_apply (r : Fin 256) (l : Fin 128) : pickE (ix2 r l) = BitVec.ofNat 32 (pickLane 0 l).val := by
  rw [← pickE_word l, ← lane_apply r l]; rfl
theorem pickO_apply (r : Fin 256) (l : Fin 128) : pickO (ix2 r l) = BitVec.ofNat 32 (pickLane 1 l).val := by
  rw [← pickO_word l, ← lane_apply r l]; rfl

theorem halfP_apply (X : Vec Ideal S256x4096 .bf16) (h : Ok (xOf X)) (idx : IVec S256x128 32) (o : Fin 2)
    (hi : ∀ r l, idx (ix2 r l) = BitVec.ofNat 32 (pickLane o l).val) (t : Fin 16) (r : Fin 256) (l : Fin 128) :
    halfP X idx t (ix2 r l) = quantX (xOf X) r ⟨2 * (128 * t.val + l.val) + o.val, by omega⟩ := by
  unfold halfP pairT
  rw [shapeCast_id]
  show (if IntOp.cmpi .slt ((lane : IVec S256x128 32) (ix2 r l)) 64#32 = 1 then gatherB _ idx (ix2 r l) else gatherB _ idx (ix2 r l)) = _
  rw [lane_apply, gatherB_apply _ _ r l _ (hi r l), gatherB_apply _ _ r l _ (hi r l), xsP_apply X h, xsP_apply X h]
  simp only [low_word]
  by_cases hl : l.val < 64
  · rw [if_pos hl]
    congr 1
    exact Fin.ext (by show 128 * (2 * t.val) + (2 * (l.val % 64) + o.val) = 2 * (128 * t.val + l.val) + o.val; omega)
  · rw [if_neg hl]
    congr 1
    exact Fin.ext (by show 128 * (2 * t.val + 1) + (2 * (l.val % 64) + o.val) = 2 * (128 * t.val + l.val) + o.val; omega)

theorem halfV_apply (X : Vec Ideal S256x4096 .bf16) (h : Ok (xOf X)) (idx : IVec S256x128 32) (o : Fin 2)
    (hi : ∀ r l, idx (ix2 r l) = BitVec.ofNat 32 (pickLane o l).val) (r : Fin 256) (k : Fin 2048) :
    halfV X idx (ix2 r k) = quantX (xOf X) r ⟨2 * k.val + o.val, by omega⟩ := by
  have := halfP_apply X h idx o hi ⟨k.val / 128, by omega⟩ r ⟨k.val % 128, by omega⟩
  refine Eq.trans ?_ (this.trans ?_)
  · unfold halfV cols
    rfl
  · congr 1
    exact Fin.ext (by show 2 * (128 * (k.val / 128) + k.val % 128) + o.val = 2 * k.val + o.val; omega)

end Cert.KernelIdeal.Point

end
-- ==== Proof.KDot.lean ====
module

public import proofs.«01_k».proof.Proof.Nibble
public import proofs.«01_k».proof.Proof.KHalf
public import Idealize.ShloMosaic.Lib.MatmulPlain

@[expose] public section

/-! The kernel's weights and its product, element by element. -/

noncomputable section

namespace Cert.KernelIdeal.Point

open Idealize.ShloMosaic Cert.KernelIdeal.Gen Cert.KernelIdeal.Tiles Cert.Quant

/-! ## A tile of weights -/

theorem shli2 (x : BitVec 32) (k : ℕ) (hk : k < 32) : IntOp.shrui ArithUnit.vector x (BitVec.ofNat 32 k) = x >>> k := by
  unfold IntOp.shrui
  have : (BitVec.ofNat 32 k).toNat = k := by rw [BitVec.toNat_ofNat]; omega
  rw [if_pos (by omega)]
  show x >>> (BitVec.ofNat 32 k).toNat = _
  rw [this]

theorem loBits_apply (W : Vec Ideal S256x128 .i8) (j : S64x128.Idx) : loBits W j = loWord (words W j) := by
  show IntOp.ori (IntOp.andi (IntOp.shli ArithUnit.vector (words W j) (BitVec.ofNat 32 2)) _)
    (IntOp.andi (IntOp.shli ArithUnit.vector (words W j) (BitVec.ofNat 32 4)) _) = _
  rw [shli_vec _ 2 (by omega), shli_vec _ 4 (by omega)]
  rfl

theorem hiBits_apply (W : Vec Ideal S256x128 .i8) (j : S64x128.Idx) : hiBits W j = hiWord (words W j) := by
  show IntOp.ori (IntOp.andi (IntOp.shrui ArithUnit.vector (words W j) (BitVec.ofNat 32 2)) _)
    (IntOp.andi (words W j) _) = _
  rw [shli2 _ 2 (by omega)]
  rfl

theorem deqLo_apply (W : Vec Ideal S256x128 .i8) (s : FVec Ideal S256x128 .bf16) (p : Fin 256) (l : Fin 128) :
    deq (loBits W) s (ix2 p l) = Ideal.ofBits .fp8e4m3 (loByte (W (ix2 p l))) * s (ix2 p l) := by
  show Ideal.ofBits .fp8e4m3 (bitcast S256x128 8 (loBits W) bitcasts_S64x128_w32_S256x128_w8 (ix2 p l)) * _ = _
  have ha : p.val / 4 < 64 := by omega
  have h1 := byte_of_words (R := 64) (R' := 256) (n := 128) (loBits W) bitcasts_S64x128_w32_S256x128_w8 p ⟨p.val / 4, ha⟩ l rfl
  have h2 := byte_in_word (R := 256) (r := 64) (n := 128) W bitcasts_S256x128_w8_S64x128_w32 p ⟨p.val / 4, ha⟩ l rfl
  rw [loBits_apply, lo_byte _ _ (by omega)] at h1
  exact congrArg (fun b => Ideal.ofBits .fp8e4m3 b * s (ix2 p l)) (h1.trans (congrArg loByte h2))

theorem deqHi_apply (W : Vec Ideal S256x128 .i8) (s : FVec Ideal S256x128 .bf16) (p : Fin 256) (l : Fin 128) :
    deq (hiBits W) s (ix2 p l) = Ideal.ofBits .fp8e4m3 (hiByte (W (ix2 p l))) * s (ix2 p l) := by
  show Ideal.ofBits .fp8e4m3 (bitcast S256x128 8 (hiBits W) bitcasts_S64x128_w32_S256x128_w8 (ix2 p l)) * _ = _
  have ha : p.val / 4 < 64 := by omega
  have h1 := byte_of_words (R := 64) (R' := 256) (n := 128) (hiBits W) bitcasts_S64x128_w32_S256x128_w8 p ⟨p.val / 4, ha⟩ l rfl
  have h2 := byte_in_word (R := 256) (r := 64) (n := 128) W bitcasts_S256x128_w8_S64x128_w32 p ⟨p.val / 4, ha⟩ l rfl
  rw [hiBits_apply, hi_byte _ _ (by omega)] at h1
  exact congrArg (fun b => Ideal.ofBits .fp8e4m3 b * s (ix2 p l)) (h1.trans (congrArg hiByte h2))

/-! ## The block scales -/

/-- The lane over 8, as the kernel's words make it. -/
def lane8W (l : BitVec 32) : BitVec 32 :=
  Scalar.select (IntOp.andi (IntOp.cmpi .ne (IntOp.subi ((IntOp.cmpi .sgt l 0#32).setWidth 32) ((IntOp.cmpi .slt l 0#32).setWidth 32)) sign8)
      (IntOp.cmpi .ne (IntOp.remsi ArithUnit.vector l 8#32) 0#32))
    (IntOp.subi (IntOp.divsi ArithUnit.vector l 8#32) 1#32) (IntOp.divsi ArithUnit.vector l 8#32)

theorem lane8_word : ∀ (l : Fin 128) (t : Fin 8), IntOp.addi (lane8W (BitVec.ofNat 32 l.val)) (BitVec.ofNat 32 (16 * t.val))
    = BitVec.ofNat 32 (16 * t.val + l.val / 8) := by decide +kernel

theorem blkScale_apply (S : Vec Ideal S256x128 .fp8e4m3) (t : ℕ) (p : Fin 256) (l : Fin 128) :
    blkScale S (blk0 t) (ix2 p l) = S (ix2 p ⟨16 * (t % 8) + l.val / 8, by omega⟩) := by
  have hx : (addi lane8 (broadcast S256x128 (blk0 t)) : IVec S256x128 32) (ix2 p l)
      = BitVec.ofNat 32 (⟨16 * (t % 8) + l.val / 8, by omega⟩ : Fin 128).val := by
    refine Eq.trans ?_ (lane8_word l ⟨t % 8, by omega⟩)
    show IntOp.addi (lane8W ((lane : IVec S256x128 32) (ix2 p l))) (blk0 t) = _
    rw [lane_apply]
  exact gather_apply (S : S256x128.Idx → EReal) _ p l _ hx

/-! ## The product -/

/-- The index of a row and a column, in the two spellings the library has. -/
theorem ix2_eq {a b : ℕ} (r : Fin a) (c : Fin b) : ValueIdx.ix2 r c = ix2 r c := by
  funext i
  match i with
  | ⟨0, _⟩ => rfl
  | ⟨1, _⟩ => rfl

theorem concat_apply (a b : FVec Ideal S256x128 .bf16) (p k : Fin 256) :
    (concatenate S256x256 1 [⟨S256x128, a⟩, ⟨S256x128, b⟩] concatenates_S256x128_S256x128_S256x256_d1 : FVec Ideal S256x256 .bf16)
      (ix2 p k) = if h : k.val < 128 then a (ix2 p ⟨k.val, h⟩) else b (ix2 p ⟨k.val - 128, by omega⟩) := by
  pointwise

/-- Two tiles' products, as one sum over 256 columns. -/
theorem dot2_apply (x : Vec Ideal S256x256 .bf16) (a b : FVec Ideal S256x128 .bf16) (r p : Fin 256) :
    dot2 x a b (ix2 r p) = ∑ k : Fin 256, x (ix2 r k)
      * (if h : k.val < 128 then a (ix2 p ⟨k.val, h⟩) else b (ix2 p ⟨k.val - 128, by omega⟩) : EReal) := by
  unfold dot2
  rw [← ix2_eq r p]
  refine (Ideal.matmul_transposedRhs_apply (M := 256) (K := 256) (N := 256) none x _ _ r p).trans ?_
  have z : (constant S256x256 .f32 0x00000000#32 : FVec Ideal S256x256 .f32) (ValueIdx.ix2 r p) = 0 := Ideal.ofBits_zero_f32
  rw [z, zero_add]
  simp only [ix2_eq, concat_apply]

/-! ## A block of 256 columns of the result -/

variable (E O : Vec Ideal S256x2048 .bf16) (W : Vec Ideal S1024x2048 .i8) (S : Vec Ideal S1024x256 .fp8e4m3)

theorem ldE_apply (k : Fin 8) (r j : Fin 256) : View.ld E (rE k) (ix2 r j) = E (ix2 r ⟨256 * k.val + j.val, by omega⟩) := by
  refine congrArg E (funext fun a => ?_)
  match a with
  | ⟨0, _⟩ => exact Fin.ext (by show 0 + 1 * r.val = r.val; omega)
  | ⟨1, _⟩ => exact Fin.ext (by show 256 * k.val + 1 * j.val = 256 * k.val + j.val; omega)

theorem ldW_apply (n : Fin 4) (t : Fin 16) (p : Fin 256) (l : Fin 128) : View.ld W (rW n t) (ix2 p l)
    = W (ix2 ⟨256 * n.val + p.val, by omega⟩ ⟨128 * t.val + l.val, by omega⟩) := by
  refine congrArg W (funext fun a => ?_)
  match a with
  | ⟨0, _⟩ => exact Fin.ext (by show 256 * n.val + 1 * p.val = 256 * n.val + p.val; omega)
  | ⟨1, _⟩ => exact Fin.ext (by show 128 * t.val + 1 * l.val = 128 * t.val + l.val; omega)

theorem ldS_apply (n : Fin 4) (t : Fin 2) (p : Fin 256) (l : Fin 128) : View.ld S (rS n t) (ix2 p l)
    = S (ix2 ⟨256 * n.val + p.val, by omega⟩ ⟨128 * t.val + l.val, by omega⟩) := by
  refine congrArg S (funext fun a => ?_)
  match a with
  | ⟨0, _⟩ => exact Fin.ext (by show 256 * n.val + 1 * p.val = 256 * n.val + p.val; omega)
  | ⟨1, _⟩ => exact Fin.ext (by show 128 * t.val + 1 * l.val = 128 * t.val + l.val; omega)

/-- The float8 of a low nibble times its block's scale. -/
def rawE (c : Fin 1024) (q : Fin 2048) : EReal :=
  Ideal.ofBits .fp8e4m3 (loByte (W (ix2 c q))) * S (ix2 c ⟨q.val / 8, by omega⟩)
/-- The float8 of a high nibble times its block's scale. -/
def rawO (c : Fin 1024) (q : Fin 2048) : EReal :=
  Ideal.ofBits .fp8e4m3 (hiByte (W (ix2 c q))) * S (ix2 c ⟨q.val / 8, by omega⟩)

theorem tileE_apply (n : Fin 4) (t : Fin 16) (u : Fin 2) (hu : u.val = t.val / 8) (p : Fin 256) (l : Fin 128) :
    deq (loBits (View.ld W (rW n t))) (blkScale (View.ld S (rS n u)) (blk0 t.val)) (ix2 p l)
      = rawE W S ⟨256 * n.val + p.val, by omega⟩ ⟨128 * t.val + l.val, by omega⟩ := by
  rw [deqLo_apply, blkScale_apply, ldW_apply, ldS_apply]
  unfold rawE
  congr 3
  exact Fin.ext (by show 128 * u.val + (16 * (t.val % 8) + l.val / 8) = (128 * t.val + l.val) / 8; omega)

theorem tileO_apply (n : Fin 4) (t : Fin 16) (u : Fin 2) (hu : u.val = t.val / 8) (p : Fin 256) (l : Fin 128) :
    deq (hiBits (View.ld W (rW n t))) (blkScale (View.ld S (rS n u)) (blk0 t.val)) (ix2 p l)
      = rawO W S ⟨256 * n.val + p.val, by omega⟩ ⟨128 * t.val + l.val, by omega⟩ := by
  rw [deqHi_apply, blkScale_apply, ldW_apply, ldS_apply]
  unfold rawO
  congr 3
  exact Fin.ext (by show 128 * u.val + (16 * (t.val % 8) + l.val / 8) = (128 * t.val + l.val) / 8; omega)

/-- A chunk of the even columns' product. -/
theorem chunkE_apply (n : Fin 4) (k : Fin 8) (r p : Fin 256) :
    chunkE (fun k => View.ld E (rE k)) (fun t => View.ld W (rW n t)) (fun t => View.ld S (rS n t)) k (ix2 r p)
      = ∑ j : Fin 256, E (ix2 r ⟨256 * k.val + j.val, by omega⟩)
          * rawE W S ⟨256 * n.val + p.val, by omega⟩ ⟨256 * k.val + j.val, by omega⟩ := by
  unfold chunkE dotLo
  rw [dot2_apply]
  refine Finset.sum_congr rfl fun j _ => ?_
  refine congrArg₂ (· * ·) (ldE_apply _ k r j) ?_
  by_cases h : j.val < 128
  · rw [dif_pos h]
    refine (tileE_apply W S n ⟨2 * k.val, by omega⟩ ⟨k.val / 4, by omega⟩ (by show k.val / 4 = 2 * k.val / 8; omega) p _).trans ?_
    congr 1
    exact Fin.ext (by show 128 * (2 * k.val) + j.val = 256 * k.val + j.val; omega)
  · rw [dif_neg h]
    refine (tileE_apply W S n ⟨2 * k.val + 1, by omega⟩ ⟨k.val / 4, by omega⟩ (by show k.val / 4 = (2 * k.val + 1) / 8; omega) p _).trans ?_
    congr 1
    exact Fin.ext (by show 128 * (2 * k.val + 1) + (j.val - 128) = 256 * k.val + j.val; omega)

/-- A chunk of the odd columns' product. -/
theorem chunkO_apply (n : Fin 4) (k : Fin 8) (r p : Fin 256) :
    chunkO (fun k => View.ld O (rE k)) (fun t => View.ld W (rW n t)) (fun t => View.ld S (rS n t)) k (ix2 r p)
      = ∑ j : Fin 256, O (ix2 r ⟨256 * k.val + j.val, by omega⟩)
          * rawO W S ⟨256 * n.val + p.val, by omega⟩ ⟨256 * k.val + j.val, by omega⟩ := by
  unfold chunkO dotHi
  rw [dot2_apply]
  refine Finset.sum_congr rfl fun j _ => ?_
  refine congrArg₂ (· * ·) (ldE_apply _ k r j) ?_
  by_cases h : j.val < 128
  · rw [dif_pos h]
    refine (tileO_apply W S n ⟨2 * k.val, by omega⟩ ⟨k.val / 4, by omega⟩ (by show k.val / 4 = 2 * k.val / 8; omega) p _).trans ?_
    congr 1
    exact Fin.ext (by show 128 * (2 * k.val) + j.val = 256 * k.val + j.val; omega)
  · rw [dif_neg h]
    refine (tileO_apply W S n ⟨2 * k.val + 1, by omega⟩ ⟨k.val / 4, by omega⟩ (by show k.val / 4 = (2 * k.val + 1) / 8; omega) p _).trans ?_
    congr 1
    exact Fin.ext (by show 128 * (2 * k.val + 1) + (j.val - 128) = 256 * k.val + j.val; omega)

/-- A sum over 2048 columns, 256 at a time. -/
theorem sum_chunks (f : Fin 2048 → EReal) :
    ∑ q : Fin 2048, f q = ∑ k : Fin 8, ∑ j : Fin 256, f ⟨256 * k.val + j.val, by omega⟩ := by
  rw [← Fintype.sum_prod_type' (fun (k : Fin 8) (j : Fin 256) => f ⟨256 * k.val + j.val, by omega⟩)]
  refine (Fintype.sum_equiv (finProdFinEquiv (m := 8) (n := 256)) _ _ fun x => ?_).symm
  congr 1
  exact Fin.ext (by show 256 * x.1.val + x.2.val = x.2.val + 256 * x.1.val; omega)

/-- The sum of the chunks, the two halves apart. -/
theorem accTo_apply (E O : Fin 8 → Vec Ideal S256x256 .bf16) (W : Fin 16 → Vec Ideal S256x128 .i8)
    (S : Fin 2 → Vec Ideal S256x128 .fp8e4m3) (i : S256x256.Idx) :
    (accTo E O W S 7 (by omega) i : EReal) = (∑ k : Fin 8, (chunkE E W S k i : EReal)) + ∑ k : Fin 8, (chunkO O W S k i : EReal) := by
  rw [← Finset.sum_add_distrib]
  have h : ∀ (k : ℕ) (hk : k < 8), (accTo E O W S k hk i : EReal)
      = ∑ j : Fin (k + 1), ((chunkE E W S ⟨j.val, by omega⟩ i : EReal) + chunkO O W S ⟨j.val, by omega⟩ i) := by
    intro k
    induction k with
    | zero => intro hk; rw [Fin.sum_univ_one]; rfl
    | succ k ih =>
      intro hk
      rw [Fin.sum_univ_castSucc]
      refine Eq.trans ?_ (congrArg (· + _) (ih (by omega)))
      exact add_assoc (accTo E O W S k (by omega) i : EReal) (chunkE E W S ⟨k + 1, hk⟩ i) (chunkO O W S ⟨k + 1, hk⟩ i)
  exact h 7 (by omega)

/-- A positive real factor goes into a sum. -/
theorem mul64_sum {n : ℕ} (f : Fin n → EReal) : (∑ q, f q) * f32v 0x42800000#32 = ∑ q, f q * f32v 0x42800000#32 := by
  have e : f32v 0x42800000#32 = ((64 : ℝ) : EReal) := by
    rw [show (0x42800000#32 : BitVec 32) = BitVec.ofNat 32 133 <<< 23 from rfl, f32v_field 133 (by omega) (by omega)]; norm_num
  rw [e]
  refine map_sum (⟨⟨fun x : EReal => x * ((64 : ℝ) : EReal), zero_mul _⟩, fun a b =>
    EReal.right_distrib_of_nonneg_of_ne_top (by exact_mod_cast (by norm_num : (0 : ℝ) ≤ 64)) (EReal.coe_ne_top _) a b⟩ : EReal →+ EReal) f _

theorem mul64_add (a b : EReal) : (a + b) * f32v 0x42800000#32 = a * f32v 0x42800000#32 + b * f32v 0x42800000#32 := by
  have := mul64_sum ![a, b]
  simpa [Fin.sum_univ_two] using this

/-- An element of a point's block of the product. -/
theorem yV_apply (g : EReal) (r : Fin 256) (c : Fin 1024) :
    yV (F := Ideal) g E O W S (ix2 r c)
      = ((∑ q : Fin 2048, E (ix2 r q) * (f32v (nibBits ((W (ix2 c q) : BitVec 8).setWidth 32 &&& 15#32)) * S (ix2 c ⟨q.val / 8, by omega⟩)))
        + ∑ q : Fin 2048, O (ix2 r q) * (f32v (nibBits (((W (ix2 c q) : BitVec 8).setWidth 32).sshiftRight 4)) * S (ix2 c ⟨q.val / 8, by omega⟩))) * g := by
  have hc : (⟨256 * (c.val / 256) + c.val % 256, by omega⟩ : Fin 1024) = c := Fin.ext (by show 256 * (c.val / 256) + c.val % 256 = c.val; omega)
  have h0 : yV (F := Ideal) g E O W S (ix2 r c)
      = yP (F := Ideal) g E O W S ⟨c.val / 256, by omega⟩ (ix2 r ⟨c.val % 256, by omega⟩) := by
    rw [← ix2_eq r c, ← ix2_eq r ⟨c.val % 256, by omega⟩]
    unfold yV cols
    rfl
  have h1 : ∀ (E' O' : Fin 8 → Vec Ideal S256x256 .bf16) (W' : Fin 16 → Vec Ideal S256x128 .i8)
      (S' : Fin 2 → Vec Ideal S256x128 .fp8e4m3) (i : S256x256.Idx),
      (yBlock (F := Ideal) g E' O' W' S' i : EReal) = ((accTo E' O' W' S' 7 (by omega) i : EReal) * f32v 0x42800000#32) * g := by
    intro E' O' W' S' i
    unfold yBlock
    generalize accTo E' O' W' S' 7 (by omega) = A
    rfl
  rw [h0]
  unfold yP
  rw [h1, accTo_apply]
  simp only [chunkE_apply, chunkO_apply]
  rw [← sum_chunks (fun q => E (ix2 r q) * rawE W S ⟨256 * (c.val / 256) + c.val % 256, by omega⟩ q),
    ← sum_chunks (fun q => O (ix2 r q) * rawO W S ⟨256 * (c.val / 256) + c.val % 256, by omega⟩ q), hc, mul64_add, mul64_sum, mul64_sum]
  congr 2
  · refine Finset.sum_congr rfl fun q _ => ?_
    rw [← lo_val]
    unfold rawE
    rw [mul_assoc, mul_right_comm]
  · refine Finset.sum_congr rfl fun q _ => ?_
    rw [← hi_val]
    unfold rawO
    rw [mul_assoc, mul_right_comm]

end Cert.KernelIdeal.Point

end
-- ==== Proof.Small.lean ====
module

public import proofs.«01_k».proof.Proof.KQuant
public import proofs.«01_k».proof.Proof.Gen.Pre_x_is_bf16
public import Idealize.ShloMosaic.Lib.ReduceAll

@[expose] public section

/-! What the precondition gives: each group's ratio is nonnegative, and either infinite or at most 2^120, where the words
the kernel makes by its search hold the scale and its inverse. -/

noncomputable section

namespace Cert.KernelIdeal.Point

open Idealize.ShloMosaic Cert.Quant

/-- A positive normal number, from its fields. -/
theorem ieee_normal (e k : ℕ) {w : ℕ} (b : BitVec w) (ex fr : ℕ) (hs : (b.extractLsb' (e + k) 1 == 1#1) = false)
    (hx : (b.extractLsb' k e).toNat = ex) (hf : (b.extractLsb' 0 k).toNat = fr) (h1 : ex ≠ 2 ^ e - 1) (h0 : ex ≠ 0) :
    Ideal.ieee e k b = ((((2 ^ k + fr : ℕ) : ℝ) * (2 : ℝ) ^ ((ex : ℤ) - (2 ^ (e - 1) - 1) - k) : ℝ) : EReal) := by
  unfold Ideal.ieee
  simp only [hs, hx, hf, if_neg h1, if_neg h0]
  simp

/-- The largest finite bfloat16. -/
theorem bf16_max : (Ideal.ofBits .bf16 0x7F7F#16 : EReal) ≤ (((2 : ℝ) ^ (128 : ℤ) : ℝ) : EReal) := by
  refine (ieee_normal 8 7 (0x7F7F#16) 254 127 (by decide) (by decide) (by decide) (by decide) (by decide)).trans_le ?_
  rw [EReal.coe_le_coe_iff]
  norm_num

theorem bf16_inf : (Ideal.ofBits .bf16 0x7F80#16 : EReal) = ⊤ := by
  simp [Ideal.ofBits, Ideal.ieee]

/-- The constant the kernel multiplies a group's largest magnitude by. -/
theorem inv448 : ∃ a : ℝ, 0 < a ∧ a ≤ (2 : ℝ) ^ (-8 : ℤ) ∧ f32v 0x3B124925#32 = (a : EReal) := by
  refine ⟨_, ?_, ?_, ieee_normal 8 23 (0x3B124925#32) 118 1198373 (by decide) (by decide) (by decide) (by decide) (by decide)⟩
  · positivity
  · norm_num

theorem mag_nonneg (x : EReal) : 0 ≤ mag x := by
  unfold mag
  rcases le_total 0 x with h | h
  · exact le_max_of_le_left h
  · exact le_max_of_le_right (by rw [← EReal.neg_le_neg_iff, neg_neg, neg_zero]; exact h)

/-- The words are right wherever the activations are bfloat16. -/
theorem ok_of_small (X : Fin 256 → Fin 4096 → EReal)
    (h : ∀ r c, mag (X r c) ≤ (Ideal.ofBits .bf16 0x7F7F#16 : EReal) ∨ mag (X r c) = ⊤) : Ok X := by
  intro r q
  obtain ⟨a, a0, a1, ha⟩ := inv448
  have hn : 0 ≤ amax X r q := by
    unfold amax
    exact (Finset.le_fold_max _).2 (Or.inr ⟨0, Finset.mem_univ _, mag_nonneg _⟩)
  have hb : amax X r q ≤ (((2 : ℝ) ^ (128 : ℤ) : ℝ) : EReal) ∨ amax X r q = ⊤ := by
    by_cases ht : ∃ k : Fin 32, mag (X r ⟨32 * q.val + k.val, by omega⟩) = ⊤
    · obtain ⟨k, hk⟩ := ht
      right
      refine top_le_iff.1 ?_
      unfold amax
      exact (Finset.le_fold_max _).2 (Or.inr ⟨k, Finset.mem_univ _, hk.ge⟩)
    · left
      unfold amax
      refine (Finset.fold_max_le _).2 ⟨bot_le, fun k _ => ?_⟩
      rcases h r ⟨32 * q.val + k.val, by omega⟩ with h | h
      · exact h.trans bf16_max
      · exact absurd ⟨k, h⟩ ht
  have a0' : (0 : EReal) < (a : EReal) := by exact_mod_cast a0
  unfold scaleX
  refine scale_eq _ ?_ ?_
  · unfold ratioX
    rw [ha]
    exact mul_nonneg hn a0'.le
  · unfold ratioX
    rw [ha]
    rcases hb with hb | hb
    · left
      refine (mul_le_mul_of_nonneg_right hb a0'.le).trans ?_
      rw [← EReal.coe_mul, EReal.coe_le_coe_iff]
      calc (2 : ℝ) ^ (128 : ℤ) * a ≤ (2 : ℝ) ^ (128 : ℤ) * (2 : ℝ) ^ (-8 : ℤ) :=
            mul_le_mul_of_nonneg_left a1 (zpow_nonneg (by norm_num) _)
        _ = (2 : ℝ) ^ (120 : ℤ) := by rw [← zpow_add₀ (by norm_num)]; norm_num
    · right
      rw [hb, EReal.top_mul_of_pos a0']

/-- What the precondition says of one activation. -/
theorem small_of_pre (x : FVec Ideal Cert.Pre_x_is_bf16.S1x256x4096 .bf16) (w : IVec Cert.Pre_x_is_bf16.S28672x2048 8)
    (s : FVec Ideal Cert.Pre_x_is_bf16.S28672x256 .fp8e4m3) (g : FVec Ideal Cert.Pre_x_is_bf16.S_ .f32)
    (h : Cert.Pre_x_is_bf16.fn (F := Ideal) x w s g = fun _ => 1#1) (i : Cert.Pre_x_is_bf16.S1x256x4096.Idx) :
    mag (x i) ≤ (Ideal.ofBits .bf16 0x7F7F#16 : EReal) ∨ mag (x i) = ⊤ := by
  haveI : Subsingleton Cert.Pre_x_is_bf16.S_.Idx := ⟨fun a b => funext fun k => k.elim0⟩
  have e := congrFun h (fun k => k.elim0)
  have e1 := Host.reduce_andi_all _ _ _ _ _ e i
  have gen : ∀ (b t : BitVec 16), (ori (cmpf .ole (Host.absf x : FVec Ideal Cert.Pre_x_is_bf16.S1x256x4096 .bf16)
        (broadcastInDim Cert.Pre_x_is_bf16.S1x256x4096 ![] Cert.Pre_x_is_bf16.Gen.bcast_S_S1x256x4096 (constant Cert.Pre_x_is_bf16.S_ .bf16 b)))
      (cmpf .oeq (Host.absf x : FVec Ideal Cert.Pre_x_is_bf16.S1x256x4096 .bf16)
        (broadcastInDim Cert.Pre_x_is_bf16.S1x256x4096 ![] Cert.Pre_x_is_bf16.Gen.bcast_S_S1x256x4096 (constant Cert.Pre_x_is_bf16.S_ .bf16 t)))
        : IVec Cert.Pre_x_is_bf16.S1x256x4096 1) i
      = IntOp.ori (Ideal.cmp .ole (mag (x i)) (Ideal.ofBits .bf16 b)) (Ideal.cmp .oeq (mag (x i)) (Ideal.ofBits .bf16 t)) := fun _ _ => rfl
  have e2 := (gen _ _).symm.trans e1
  rw [Ideal.cmp_ole, Ideal.cmp_oeq, bf16_inf] at e2
  by_contra hc
  rw [not_or] at hc
  simp [hc.1, hc.2, IntOp.ori] at e2

end Cert.KernelIdeal.Point

end
-- ==== Proof.KResult.lean ====
module

public import proofs.«01_k».proof.Proof.KArgs
public import proofs.«01_k».proof.Proof.KDot
public import proofs.«01_k».proof.Proof.KHalf
public import proofs.«01_k».proof.Proof.Small

@[expose] public section

/-! The kernel's results, element by element, from its arguments. -/

noncomputable section

namespace Cert.KernelIdeal.Result

open Cert.KernelIdeal Cert.KernelIdeal.Gen Cert.KernelIdeal.Tiles Cert.KernelIdeal.Point Cert.KernelIdeal.Args Cert.Quant
open Idealize.ShloMosaic Idealize.ShloMosaic.TcCoe

variable (m : (ℓ : Loc nD τ sig) → Buf (Elt Ideal) ℓ) (c : Dev nD)

/-- The activations by row and column. -/
def X : Fin 256 → Fin 4096 → EReal := fun r k => xA m c (ix3 0 r k)
/-- The packed weights by row and column. -/
def W : Fin 28672 → Fin 2048 → BitVec 8 := fun n k => wA m c (ix2 n k)
/-- The weights' scales by row and block. -/
def S : Fin 28672 → Fin 256 → EReal := fun n k => sA m c (ix2 n k)

theorem xOf_eq : xOf (xAll m c) = X m c := funext fun r => funext fun k => xAll_apply m c r k

theorem codes_eq (h : Ok (X m c)) (r : Fin 256) (k : Fin 4096) :
    Value.G5 m c (ix2 r k) = codeX (X m c) r k := by
  rw [← xOf_eq] at h ⊢
  exact codesV_apply (xAll m c) h r k

theorem scale_eq' (h : Ok (X m c)) (r : Fin 256) (q : Fin 128) :
    Value.G6 m c (ix2 r q) = scaleX (X m c) r q := by
  rw [← xOf_eq] at h ⊢
  exact (scaleV_bits (xAll m c) r q).trans (h r q).1

theorem prod_eq (h : Ok (X m c)) (r : Fin 256) (n : Fin 28672) :
    Value.G4 m c (ix2 r n) = prodX (X m c) (W m c) (S m c) (gA m c) r n := by
  have hl : Value.loc4Of (ix2 r n) = ix2 r ⟨n.val % 1024, by omega⟩ := by
    funext a
    match a with
    | ⟨0, _⟩ => rfl
    | ⟨1, _⟩ => rfl
  have hp : (Value.pt4Of (ix2 r n)).val = n.val / 1024 := rfl
  unfold Value.G4
  rw [hl]
  generalize Value.pt4Of (ix2 r n) = t at hp
  unfold yAt
  refine (yV_apply _ _ _ _ _ r _).trans ?_
  rw [g_apply]
  rw [← xOf_eq] at h ⊢
  have hn : (⟨1024 * t.val + n.val % 1024, by have := lt28 t; omega⟩ : Fin 28672) = n := Fin.ext (by show 1024 * t.val + n.val % 1024 = n.val; omega)
  unfold prodX
  refine congrArg₂ (· * ·) (congrArg₂ (· + ·) (Finset.sum_congr rfl fun k _ => ?_) (Finset.sum_congr rfl fun k _ => ?_)) rfl
  · rw [halfV_apply _ h _ 0 pickE_apply, w_apply, s_apply, hn]
    rfl
  · rw [halfV_apply _ h _ 1 pickO_apply, w_apply, s_apply, hn]
    rfl

end Cert.KernelIdeal.Result

end
-- ==== Proof.RefValue.lean ====
module

public import proofs.«01_k».proof.Proof.Gen.ReferenceIdeal.Value
public import Idealize.ShloMosaic.Lib.WholeRead

@[expose] public section

/-! What the reference's three result arrays hold after the run: its payloads at the arrays it reads whole. -/

noncomputable section

namespace Cert.ReferenceIdeal.Value

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## The pieces of the run -/

/-- The one entry of the global scale. -/
def gOf (x0 : Vec F S1 .f32) : Elt F .f32 := x0 (fun _ => ⟨0, by decide +revert⟩)

/-- The product, from the arrays. -/
def yAll (g : Elt F .f32) (X : Vec F S256x4096 .bf16) (W : Vec F S28672x2048 .i8) (S : Vec F S28672x256 .fp8e4m3) :
    FVec F S256x28672 .bf16 :=
  k0_pay1 (k0_pay7 X) (k0_pay8 X) (k0_pay10 S) (k0_pay11 W S) (k0_pay12 W) (k0_pay13 W) g

theorem zero2 : (![0, 0] : Fin 2 → ℕ) = fun _ => 0 := funext fun a => by
  match a with
  | ⟨0, _⟩ => rfl
  | ⟨1, _⟩ => rfl

/-- A load of a whole array is the array. -/
theorem load_whole {s : Shape} {e : EltTy} {sp : Space} {a : Memref sig .tc sp s e} (ha : a.IsWhole) {off : Fin s.rank → ℕ}
    (hz : off = fun _ => 0) (inb : ∀ a, off a + s.size a ≤ s.size a) (x : s.Idx → Elt F e) :
    View.readAt (Elt F) a.view (Rect.unit off s.size inb).toLoadRect (ha.unread x) = x := by
  funext y
  rw [ha.readAt_unread]
  subst hz
  congr 1
  funext b
  exact Fin.ext (by show 0 + 1 * (y b).val = (y b).val; omega)

/-- What one store of a whole buffer leaves. -/
theorem read_whole {S : Shape} {e : EltTy} {κ : Kind} {sp : Space} (v : View sig κ sp S e) (g : v.ty.Contents (Elt F))
    {off : Fin S.rank → ℕ} (hz : off = fun _ => 0) (inb : ∀ a, off a + S.size a ≤ S.size a) (x : S.Idx → Elt F e)
    (L : List (View.Piece (Elt F) S e)) (hL : L = [⟨Rect.unit off S.size inb, x⟩]) :
    v.read (Elt F) (v.writes (Elt F) g L) = x := by
  subst hL
  exact (View.read_writes_eq_canon v g _ fun y => ⟨_, List.mem_singleton_self _, View.mem_set_unit_zero hz inb y⟩).trans
    (View.canon_unit_zero hz inb x)

section
variable (c : Dev nD) (arg0 : Memref sig .tc .smem S1 .f32) (harg0 : arg0.IsWhole)
    (arg1 : Memref sig .tc .vmem S256x4096 .bf16) (harg1 : arg1.IsWhole)
    (arg2 : Memref sig .tc .vmem S28672x2048 .i8) (harg2 : arg2.IsWhole)
    (arg3 : Memref sig .tc .vmem S28672x256 .fp8e4m3) (harg3 : arg3.IsWhole)
    (arg4 : Memref sig .tc .vmem S256x28672 .bf16) (harg4 : arg4.IsWhole)
    (arg5 : Memref sig .tc .vmem S256x4096 .fp8e4m3) (harg5 : arg5.IsWhole)
    (arg6 : Memref sig .tc .vmem S256x128 .f32) (harg6 : arg6.IsWhole)
    (x0 : Vec F S1 .f32) (x1 : Vec F S256x4096 .bf16) (x2 : Vec F S28672x2048 .i8) (x3 : Vec F S28672x256 .fp8e4m3)

/-- x as the body loads it. -/
def xL : Vec F S256x4096 .bf16 := View.readAt (Elt F) arg1.view (Rect.unit ![0, 0] S256x4096.size inb_S256x4096_S256x4096_0_0).toLoadRect (harg1.unread x1)
/-- The weights as the body loads them. -/
def wL : Vec F S28672x2048 .i8 := View.readAt (Elt F) arg2.view (Rect.unit ![0, 0] S28672x2048.size inb_S28672x2048_S28672x2048_0_0).toLoadRect (harg2.unread x2)
/-- The block scales as the body loads them. -/
def sL : Vec F S28672x256 .fp8e4m3 := View.readAt (Elt F) arg3.view (Rect.unit ![0, 0] S28672x256.size inb_S28672x256_S28672x256_0_0).toLoadRect (harg3.unread x3)
/-- The global scale as the body loads it. -/
def gL : Elt F .f32 := View.readAt (Elt F) arg0.view (Rect.unit ![0] S1.size inb_S1_S1_0).toLoadRect (harg0.unread x0) (Shape.Idx.first (by decide))

theorem run_y : (kernelRun0_A c arg0 harg0 arg1 harg1 arg2 harg2 arg3 harg3 arg4 harg4 arg5 harg5 arg6 harg6 x0 x1 x2 x3).1
    = [⟨Rect.unit ![0, 0] S256x28672.size inb_S256x28672_S256x28672_0_0,
        yAll (gL arg0 harg0 x0) (xL arg1 harg1 x1) (wL arg2 harg2 x2) (sL arg3 harg3 x3)⟩] := by
  with_unfolding_all rfl

theorem run_codes : (kernelRun0_A c arg0 harg0 arg1 harg1 arg2 harg2 arg3 harg3 arg4 harg4 arg5 harg5 arg6 harg6 x0 x1 x2 x3).2.1
    = [⟨Rect.unit ![0, 0] S256x4096.size inb_S256x4096_S256x4096_0_0, k0_pay5 (xL arg1 harg1 x1)⟩] := by
  with_unfolding_all rfl

theorem run_scale : (kernelRun0_A c arg0 harg0 arg1 harg1 arg2 harg2 arg3 harg3 arg4 harg4 arg5 harg5 arg6 harg6 x0 x1 x2 x3).2.2.1
    = [⟨Rect.unit ![0, 0] S256x128.size inb_S256x128_S256x128_0_0, k0_pay4 (xL arg1 harg1 x1)⟩] := by
  with_unfolding_all rfl

theorem xL_eq : xL arg1 harg1 x1 = x1 := load_whole harg1 zero2 _ x1
theorem wL_eq : wL arg2 harg2 x2 = x2 := load_whole harg2 zero2 _ x2
theorem sL_eq : sL arg3 harg3 x3 = x3 := load_whole harg3 zero2 _ x3
theorem gL_eq : gL arg0 harg0 x0 = gOf x0 := by
  unfold gL
  rw [harg0.readAt_unread]
  refine congrArg x0 (funext fun a => ?_)
  match a with
  | ⟨0, _⟩ => exact Fin.ext rfl

theorem out4 : out0_A_4 c arg0 harg0 arg1 harg1 arg2 harg2 arg3 harg3 arg4 harg4 arg5 harg5 arg6 harg6 x0 x1 x2 x3
    = yAll (gOf x0) x1 x2 x3 := by
  have h := run_y c arg0 harg0 arg1 harg1 arg2 harg2 arg3 harg3 arg4 harg4 arg5 harg5 arg6 harg6 x0 x1 x2 x3
  rw [xL_eq, wL_eq, sL_eq, gL_eq] at h
  exact read_whole _ _ zero2 _ _ _ h
theorem out5 : out0_A_5 c arg0 harg0 arg1 harg1 arg2 harg2 arg3 harg3 arg4 harg4 arg5 harg5 arg6 harg6 x0 x1 x2 x3
    = k0_pay5 x1 := by
  have h := run_codes c arg0 harg0 arg1 harg1 arg2 harg2 arg3 harg3 arg4 harg4 arg5 harg5 arg6 harg6 x0 x1 x2 x3
  rw [xL_eq] at h
  exact read_whole _ _ zero2 _ _ _ h
theorem out6 : out0_A_6 c arg0 harg0 arg1 harg1 arg2 harg2 arg3 harg3 arg4 harg4 arg5 harg5 arg6 harg6 x0 x1 x2 x3
    = k0_pay4 x1 := by
  have h := run_scale c arg0 harg0 arg1 harg1 arg2 harg2 arg3 harg3 arg4 harg4 arg5 harg5 arg6 harg6 x0 x1 x2 x3
  rw [xL_eq] at h
  exact read_whole _ _ zero2 _ _ _ h
end

/-- The one point. -/
def pt : Fin cfg0.N := ⟨0, lt_of_lt_of_eq (by decide) (show 1 = cfg0.N from N_0.symm)⟩
theorem eq_pt (t : Fin cfg0.N) : t = pt := Fin.ext (by have := lt_of_lt_of_eq t.isLt (show cfg0.N = 1 from N_0); show t.val = 0; omega)

/-! ## Result 0 -/

/-- What the array ends holding. -/
def G4 (c : Dev nD) : Buf (Elt F) ((c : Thread nD τ).loc main_v2_0) := yAll (gOf (iblk m c 0 pt)) (iblk m c 1 pt) (iblk m c 2 pt) (iblk m c 3 pt)

theorem idx_facts4 : ∀ t : Fin cfg0.N, win0_4.index t (0 : Fin 2) = 0 ∧ win0_4.index t (1 : Fin 2) = 0 :=
  (by decide +kernel : ∀ t : Fin grid0.N, _)

/-- What the point writes back is the array. -/
theorem flushed4_eq (c : Dev nD) (t : Fin cfg0.N) :
    (dats m 0 c).flushed 4 t = ((cfg0.win 4).blk t).view.read (Elt F) (G4 m c) := by
  rw [flushed4_A, out4, eq_pt t]
  obtain ⟨e0, e1⟩ := idx_facts4 pt
  funext y
  have hb0 : (((cfg0.win 4).blk pt).view.emb y 0).val = win0_4.index pt (0 : Fin 2) * 256 + 1 * (y 0).val := rfl
  have hb1 : (((cfg0.win 4).blk pt).view.emb y 1).val = win0_4.index pt (1 : Fin 2) * 28672 + 1 * (y 1).val := rfl
  rw [e0] at hb0
  rw [e1] at hb1
  have hl : (((cfg0.win 4).blk pt).view.emb y : S256x28672.Idx) = (cfg0.win 4).xinj (grid0.coords pt) y := by
    funext a; apply Fin.ext
    match a with
    | ⟨0, _⟩ => show (((cfg0.win 4).blk pt).view.emb y 0).val = (y 0).val; omega
    | ⟨1, _⟩ => show (((cfg0.win 4).blk pt).view.emb y 1).val = (y 1).val; omega
  show G4 m c ((cfg0.win 4).xinj (grid0.coords pt) y) = G4 m c (((cfg0.win 4).blk pt).view.emb y)
  rw [hl]

/-- An index of the array is in the point's block iff each coordinate is in the block's range on its axis. -/
theorem mem_blk4 (t : Fin cfg0.N) (i : S256x28672.Idx) :
    i ∈ ((cfg0.win 4).blk t).view.set ↔ ∀ a : Fin 2, win0_4.index t a * S256x28672.size a ≤ (i a).val ∧ (i a).val < win0_4.index t a * S256x28672.size a + S256x28672.size a := by
  show i ∈ ((View.whole main_v2_0).slice (win0_4.rect t)).set ↔ _
  rw [View.set_slice_whole, Rect.mem_set_unit]
  exact Iff.rfl

theorem flush4_at : ∀ t : Fin cfg0.N, (cfg0.win 4).flush t = true := by decide +kernel

/-- The array after the run. -/
theorem final4 (c : Dev nD) : (dats m 0 c).arrAt 4 cfg0.N = G4 m c :=
  (dats m 0 c).arrAt_eq_of_cover 4 _ (fun t hf => flushed4_eq m c t) (fun i => by
    have h0 : (i 0).val < 256 := (i 0).isLt
    have h1 : (i 1).val < 28672 := (i 1).isLt
    obtain ⟨e0, e1⟩ := idx_facts4 pt
    refine ⟨pt, flush4_at pt, (mem_blk4 pt i).2 fun a => ?_⟩
    match a with
    | ⟨0, _⟩ => show win0_4.index pt (0 : Fin 2) * 256 ≤ (i 0).val ∧ (i 0).val < win0_4.index pt (0 : Fin 2) * 256 + 256; omega
    | ⟨1, _⟩ => show win0_4.index pt (1 : Fin 2) * 28672 ≤ (i 1).val ∧ (i 1).val < win0_4.index pt (1 : Fin 2) * 28672 + 28672; omega)

/-! ## Result 1 -/

/-- What the array ends holding. -/
def G5 (c : Dev nD) : Buf (Elt F) ((c : Thread nD τ).loc main_v2_1) := k0_pay5 (iblk m c 1 pt)

theorem idx_facts5 : ∀ t : Fin cfg0.N, win0_5.index t (0 : Fin 2) = 0 ∧ win0_5.index t (1 : Fin 2) = 0 :=
  (by decide +kernel : ∀ t : Fin grid0.N, _)

/-- What the point writes back is the array. -/
theorem flushed5_eq (c : Dev nD) (t : Fin cfg0.N) :
    (dats m 0 c).flushed 5 t = ((cfg0.win 5).blk t).view.read (Elt F) (G5 m c) := by
  rw [flushed5_A, out5, eq_pt t]
  obtain ⟨e0, e1⟩ := idx_facts5 pt
  funext y
  have hb0 : (((cfg0.win 5).blk pt).view.emb y 0).val = win0_5.index pt (0 : Fin 2) * 256 + 1 * (y 0).val := rfl
  have hb1 : (((cfg0.win 5).blk pt).view.emb y 1).val = win0_5.index pt (1 : Fin 2) * 4096 + 1 * (y 1).val := rfl
  rw [e0] at hb0
  rw [e1] at hb1
  have hl : (((cfg0.win 5).blk pt).view.emb y : S256x4096.Idx) = (cfg0.win 5).xinj (grid0.coords pt) y := by
    funext a; apply Fin.ext
    match a with
    | ⟨0, _⟩ => show (((cfg0.win 5).blk pt).view.emb y 0).val = (y 0).val; omega
    | ⟨1, _⟩ => show (((cfg0.win 5).blk pt).view.emb y 1).val = (y 1).val; omega
  show G5 m c ((cfg0.win 5).xinj (grid0.coords pt) y) = G5 m c (((cfg0.win 5).blk pt).view.emb y)
  rw [hl]

/-- An index of the array is in the point's block iff each coordinate is in the block's range on its axis. -/
theorem mem_blk5 (t : Fin cfg0.N) (i : S256x4096.Idx) :
    i ∈ ((cfg0.win 5).blk t).view.set ↔ ∀ a : Fin 2, win0_5.index t a * S256x4096.size a ≤ (i a).val ∧ (i a).val < win0_5.index t a * S256x4096.size a + S256x4096.size a := by
  show i ∈ ((View.whole main_v2_1).slice (win0_5.rect t)).set ↔ _
  rw [View.set_slice_whole, Rect.mem_set_unit]
  exact Iff.rfl

theorem flush5_at : ∀ t : Fin cfg0.N, (cfg0.win 5).flush t = true := by decide +kernel

/-- The array after the run. -/
theorem final5 (c : Dev nD) : (dats m 0 c).arrAt 5 cfg0.N = G5 m c :=
  (dats m 0 c).arrAt_eq_of_cover 5 _ (fun t hf => flushed5_eq m c t) (fun i => by
    have h0 : (i 0).val < 256 := (i 0).isLt
    have h1 : (i 1).val < 4096 := (i 1).isLt
    obtain ⟨e0, e1⟩ := idx_facts5 pt
    refine ⟨pt, flush5_at pt, (mem_blk5 pt i).2 fun a => ?_⟩
    match a with
    | ⟨0, _⟩ => show win0_5.index pt (0 : Fin 2) * 256 ≤ (i 0).val ∧ (i 0).val < win0_5.index pt (0 : Fin 2) * 256 + 256; omega
    | ⟨1, _⟩ => show win0_5.index pt (1 : Fin 2) * 4096 ≤ (i 1).val ∧ (i 1).val < win0_5.index pt (1 : Fin 2) * 4096 + 4096; omega)

/-! ## Result 2 -/

/-- What the array ends holding. -/
def G6 (c : Dev nD) : Buf (Elt F) ((c : Thread nD τ).loc main_v2_2) := k0_pay4 (iblk m c 1 pt)

theorem idx_facts6 : ∀ t : Fin cfg0.N, win0_6.index t (0 : Fin 2) = 0 ∧ win0_6.index t (1 : Fin 2) = 0 :=
  (by decide +kernel : ∀ t : Fin grid0.N, _)

/-- What the point writes back is the array. -/
theorem flushed6_eq (c : Dev nD) (t : Fin cfg0.N) :
    (dats m 0 c).flushed 6 t = ((cfg0.win 6).blk t).view.read (Elt F) (G6 m c) := by
  rw [flushed6_A, out6, eq_pt t]
  obtain ⟨e0, e1⟩ := idx_facts6 pt
  funext y
  have hb0 : (((cfg0.win 6).blk pt).view.emb y 0).val = win0_6.index pt (0 : Fin 2) * 256 + 1 * (y 0).val := rfl
  have hb1 : (((cfg0.win 6).blk pt).view.emb y 1).val = win0_6.index pt (1 : Fin 2) * 128 + 1 * (y 1).val := rfl
  rw [e0] at hb0
  rw [e1] at hb1
  have hl : (((cfg0.win 6).blk pt).view.emb y : S256x128.Idx) = (cfg0.win 6).xinj (grid0.coords pt) y := by
    funext a; apply Fin.ext
    match a with
    | ⟨0, _⟩ => show (((cfg0.win 6).blk pt).view.emb y 0).val = (y 0).val; omega
    | ⟨1, _⟩ => show (((cfg0.win 6).blk pt).view.emb y 1).val = (y 1).val; omega
  show G6 m c ((cfg0.win 6).xinj (grid0.coords pt) y) = G6 m c (((cfg0.win 6).blk pt).view.emb y)
  rw [hl]

/-- An index of the array is in the point's block iff each coordinate is in the block's range on its axis. -/
theorem mem_blk6 (t : Fin cfg0.N) (i : S256x128.Idx) :
    i ∈ ((cfg0.win 6).blk t).view.set ↔ ∀ a : Fin 2, win0_6.index t a * S256x128.size a ≤ (i a).val ∧ (i a).val < win0_6.index t a * S256x128.size a + S256x128.size a := by
  show i ∈ ((View.whole main_v2_2).slice (win0_6.rect t)).set ↔ _
  rw [View.set_slice_whole, Rect.mem_set_unit]
  exact Iff.rfl

theorem flush6_at : ∀ t : Fin cfg0.N, (cfg0.win 6).flush t = true := by decide +kernel

/-- The array after the run. -/
theorem final6 (c : Dev nD) : (dats m 0 c).arrAt 6 cfg0.N = G6 m c :=
  (dats m 0 c).arrAt_eq_of_cover 6 _ (fun t hf => flushed6_eq m c t) (fun i => by
    have h0 : (i 0).val < 256 := (i 0).isLt
    have h1 : (i 1).val < 128 := (i 1).isLt
    obtain ⟨e0, e1⟩ := idx_facts6 pt
    refine ⟨pt, flush6_at pt, (mem_blk6 pt i).2 fun a => ?_⟩
    match a with
    | ⟨0, _⟩ => show win0_6.index pt (0 : Fin 2) * 256 ≤ (i 0).val ∧ (i 0).val < win0_6.index pt (0 : Fin 2) * 256 + 256; omega
    | ⟨1, _⟩ => show win0_6.index pt (1 : Fin 2) * 128 ≤ (i 1).val ∧ (i 1).val < win0_6.index pt (1 : Fin 2) * 128 + 128; omega)

/-- The run, read: each result array at what is stated of it, the arguments unchanged. -/
theorem run : θ_run defs (onTc (τ := τ) (main (F := F))) ⟨m, fun _ => 0, ρ⟩ fun r => ∀ c : Dev nD,
      r.2.mem ((c : Thread nD τ).loc main_v2_0) = G4 m c
      ∧ r.2.mem ((c : Thread nD τ).loc main_v2_1) = G5 m c
      ∧ r.2.mem ((c : Thread nD τ).loc main_v2_2) = G6 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => by
    have h := h c
    rw [final4, final5, final6] at h
    exact h)
    (run_blocks m ρ)

end Cert.ReferenceIdeal.Value

end
-- ==== Proof.RefArgs.lean ====
module

public import proofs.«01_k».proof.Proof.RefValue
public import Idealize.ShloMosaic.Lib.Pointwise

@[expose] public section

/-! The arrays the reference stages, by the arguments' elements. -/

noncomputable section

namespace Cert.ReferenceIdeal.Args

open Cert.ReferenceIdeal Cert.ReferenceIdeal.Gen Idealize.ShloMosaic Idealize.ShloMosaic.TcCoe

variable (m : (ℓ : Loc nD τ sig) → Buf (Elt Ideal) ℓ) (c : Dev nD)

/-- The activations. -/
def xA : FVec Ideal S1x256x4096 .bf16 := m ((c : Thread nD τ).loc main_arg0)
/-- The packed weights. -/
def wA : IVec S28672x2048 8 := m ((c : Thread nD τ).loc main_arg1)
/-- The weights' scales. -/
def sA : FVec Ideal S28672x256 .fp8e4m3 := m ((c : Thread nD τ).loc main_arg2)
/-- The global scale. -/
def gA : EReal := (m ((c : Thread nD τ).loc main_arg3) : FVec Ideal S_ .f32) (fun a => a.elim0)

theorem V_main_v1 : V m c main_v1 = (shapeCast S256x4096 (xA m c) shapeCasts_S1x256x4096_S256x4096 : FVec Ideal S256x4096 .bf16) := by
  simp only [V, StableHlo.after_cons, StableHlo.after_nil]
  rfl
theorem V_main_v0 : V m c main_v0 = (shapeCast S1 (m ((c : Thread nD τ).loc main_arg3) : FVec Ideal S_ .f32) shapeCasts_S_S1 : FVec Ideal S1 .f32) := by
  simp only [V, StableHlo.after_cons, StableHlo.after_nil]
  rfl

theorem idx_facts0 : ∀ t : Fin cfg0.N, win0_0.index t (0 : Fin 1) = 0 := (by decide +kernel : ∀ t : Fin grid0.N, _)
theorem idx_facts1 : ∀ t : Fin cfg0.N, win0_1.index t (0 : Fin 2) = 0 ∧ win0_1.index t (1 : Fin 2) = 0 := (by decide +kernel : ∀ t : Fin grid0.N, _)
theorem idx_facts2 : ∀ t : Fin cfg0.N, win0_2.index t (0 : Fin 2) = 0 ∧ win0_2.index t (1 : Fin 2) = 0 := (by decide +kernel : ∀ t : Fin grid0.N, _)
theorem idx_facts3 : ∀ t : Fin cfg0.N, win0_3.index t (0 : Fin 2) = 0 ∧ win0_3.index t (1 : Fin 2) = 0 := (by decide +kernel : ∀ t : Fin grid0.N, _)

theorem cast_x (x : FVec Ideal S1x256x4096 .bf16) (r : Fin 256) (k : Fin 4096) :
    (shapeCast S256x4096 x shapeCasts_S1x256x4096_S256x4096 : FVec Ideal S256x4096 .bf16) (ix2 r k) = x (ix3 0 r k) := by
  pointwise

theorem cast_g (x : FVec Ideal S_ .f32) (i : S1.Idx) :
    (shapeCast S1 x shapeCasts_S_S1 : FVec Ideal S1 .f32) i = x (fun a => a.elim0) :=
  congrArg x (funext fun a => a.elim0)

theorem x_apply (t : Fin cfg0.N) (r : Fin 256) (k : Fin 4096) : (iblk m c 1 t : Vec Ideal S256x4096 .bf16) (ix2 r k) = xA m c (ix3 0 r k) := by
  rw [← cast_x (xA m c) r k, ← V_main_v1]
  obtain ⟨e0, e1⟩ := idx_facts1 t
  refine congrArg (V m c main_v1) (funext fun a => ?_)
  match a with
  | ⟨0, _⟩ => exact Fin.ext (by show win0_1.index t (0 : Fin 2) * 256 + 1 * r.val = r.val; omega)
  | ⟨1, _⟩ => exact Fin.ext (by show win0_1.index t (1 : Fin 2) * 4096 + 1 * k.val = k.val; omega)

theorem w_apply (t : Fin cfg0.N) (n : Fin 28672) (k : Fin 2048) : (iblk m c 2 t : Vec Ideal S28672x2048 .i8) (ix2 n k)
    = wA m c (ix2 n k) := by
  unfold wA
  rw [← V_main_arg1 m c]
  obtain ⟨e0, e1⟩ := idx_facts2 t
  refine congrArg (V m c main_arg1) (funext fun a => ?_)
  match a with
  | ⟨0, _⟩ => exact Fin.ext (by show win0_2.index t (0 : Fin 2) * 28672 + 1 * n.val = n.val; omega)
  | ⟨1, _⟩ => exact Fin.ext (by show win0_2.index t (1 : Fin 2) * 2048 + 1 * k.val = k.val; omega)

theorem s_apply (t : Fin cfg0.N) (n : Fin 28672) (k : Fin 256) : (iblk m c 3 t : Vec Ideal S28672x256 .fp8e4m3) (ix2 n k)
    = sA m c (ix2 n k) := by
  unfold sA
  rw [← V_main_arg2 m c]
  obtain ⟨e0, e1⟩ := idx_facts3 t
  refine congrArg (V m c main_arg2) (funext fun a => ?_)
  match a with
  | ⟨0, _⟩ => exact Fin.ext (by show win0_3.index t (0 : Fin 2) * 28672 + 1 * n.val = n.val; omega)
  | ⟨1, _⟩ => exact Fin.ext (by show win0_3.index t (1 : Fin 2) * 256 + 1 * k.val = k.val; omega)

theorem g_apply (t : Fin cfg0.N) : (Value.gOf (iblk m c 0 t : Vec Ideal S1 .f32) : EReal) = gA m c := by
  unfold Value.gOf
  show V m c main_v0 _ = _
  rw [V_main_v0]
  exact cast_g _ _

end Cert.ReferenceIdeal.Args

end
-- ==== Proof.RefPoint.lean ====
module

public import proofs.«01_k».proof.Proof.Spec
public import proofs.«01_k».proof.Proof.Gen.ReferenceIdeal.Skeleton
public import Idealize.ShloMosaic.Lib.Pointwise
public import Idealize.ShloMosaic.Lib.MatmulPlain
public import Idealize.ShloMosaic.Lib.ValueIdxCore

@[expose] public section

/-! The reference's payloads, element by element. -/

noncomputable section

namespace Cert.ReferenceIdeal.Point

open Idealize.ShloMosaic Cert.ReferenceIdeal.Gen Cert.Quant

/-- The activations by row and column. -/
def xOf (v : Vec Ideal S256x4096 .bf16) : Fin 256 → Fin 4096 → EReal := fun r c => v (ix2 r c)

/-- A choice on two words, one of which is set. -/
theorem select_or (a b : Prop) [Decidable a] [Decidable b] {α : Type} (x y : α) :
    Scalar.select (IntOp.ori (BitVec.ofBool (decide a)) (BitVec.ofBool (decide b))) x y = if a ∨ b then x else y := by
  by_cases ha : a <;> by_cases hb : b <;> simp [ha, hb, Scalar.select, IntOp.ori]

/-- The word of a nibble's value, as the reference's operations make it. -/
theorem nib_eq (c : BitVec 32) :
    IntOp.shli ArithUnit.vector
          (IntOp.ori
            (Scalar.select (IntOp.cmpi CmpIPredicate.eq (IntOp.andi c 6#32) 0#32)
              (IntOp.muli (IntOp.andi c 1#32) 16128#32)
              (IntOp.addi (IntOp.shli ArithUnit.vector (IntOp.andi c 7#32) 6#32) 16128#32))
            (IntOp.shli ArithUnit.vector (IntOp.andi c 8#32) 12#32)) 16#32 = nibBits c := by
  have hs : ∀ (x : BitVec 32) (k : ℕ) (hk : k < 32), IntOp.shli ArithUnit.vector x (BitVec.ofNat 32 k) = x <<< k := by
    intro x k hk
    unfold IntOp.shli
    have : (BitVec.ofNat 32 k).toNat = k := by rw [BitVec.toNat_ofNat]; omega
    rw [if_pos (by omega)]
    show x <<< (BitVec.ofNat 32 k).toNat = _
    rw [this]
  rw [hs _ 16 (by omega), hs _ 6 (by omega), hs _ 12 (by omega)]
  unfold nibBits
  by_cases h : c &&& 6#32 = 0#32
  · simp [IntOp.andi, IntOp.ori, IntOp.muli, IntOp.addi, IntOp.cmpi, Scalar.select, h]
  · have hb : (c &&& 6#32 == 0#32) = false := by simpa using h
    simp [IntOp.andi, IntOp.ori, IntOp.muli, IntOp.addi, IntOp.cmpi, Scalar.select, h, hb]

/-- The largest magnitude of a group, as the reference reduces it. -/
theorem amax_apply (v : Vec Ideal S256x4096 .bf16) (r : Fin 256) (q : Fin 128) :
    multiReduction .maximumf [2] S256x128 (absf (k0_pay2 v)) 0xFF800000#32 reduces_S256x128x32_S256x128 (.inl rfl) rfl (ix2 r q)
      = amax (xOf v) r q := by
  unfold k0_pay2
  pointwise
  have hb : Ideal.ofBits FTy.f32 4286578688#32 = ⊥ := by simp [Ideal.ofBits, Ideal.ieee]
  rw [hb]
  unfold amax
  refine congrArg (fun f : Fin 32 → EReal => Finset.univ.fold max ⊥ f) (funext fun x => ?_)
  show mag (v (ix2 r ⟨q.val * 32 + x.val, _⟩)) = mag (v (ix2 r ⟨32 * q.val + x.val, _⟩))
  simp only [Nat.mul_comm q.val 32]

/-- The exponent, from the ratio, with the constants' words free. -/
theorem expT_apply (a b c z t o : BitVec 32) (M : FVec Ideal S256x128 .f32) (i : S256x128.Idx) :
    (select
      (ori
        (cmpf CmpFPredicate.olt (mulf M (broadcast S256x128 (FloatOps.ofBits FTy.f32 a)))
          (broadcast S256x128 (FloatOps.ofBits FTy.f32 b)))
        (cmpf CmpFPredicate.oeq (mulf M (broadcast S256x128 (FloatOps.ofBits FTy.f32 a)))
          (broadcast S256x128 (FloatOps.ofBits FTy.f32 c))))
      (broadcast S256x128 (FloatOps.ofBits FTy.f32 z))
      (addf
        (floor
          (divf (log (mulf M (broadcast S256x128 (FloatOps.ofBits FTy.f32 a))))
            (log (broadcast S256x128 (FloatOps.ofBits FTy.f32 t)))))
        (broadcast S256x128 (FloatOps.ofBits FTy.f32 o))) : FVec Ideal S256x128 .f32) i
      = Scalar.select (IntOp.ori (Ideal.cmp .olt (M i * f32v a) (f32v b)) (Ideal.cmp .oeq (M i * f32v a) (f32v c))) (f32v z)
        (Ideal.liftRound Int.floor (Ideal.div (Ideal.log (M i * f32v a)) (Ideal.log (f32v t))) + f32v o) := rfl

/-- The exponent of a group's scale. -/
theorem pay3_apply (v : Vec Ideal S256x4096 .bf16) (r : Fin 256) (q : Fin 128) :
    k0_pay3 v (ix2 r q) = expOf (ratioX (xOf v) r q) := by
  have h := amax_apply v r q
  unfold k0_pay3
  dsimp only
  generalize multiReduction .maximumf [2] S256x128 (absf (k0_pay2 v)) 0xFF800000#32 reduces_S256x128x32_S256x128 (.inl rfl) rfl = M at h ⊢
  refine (expT_apply _ _ _ _ _ _ M (ix2 r q)).trans ?_
  unfold expOf ratioX
  rw [← h, Ideal.cmp_olt, Ideal.cmp_oeq, select_or]

/-- A group's scale. -/
theorem pay4_apply (v : Vec Ideal S256x4096 .bf16) (r : Fin 256) (q : Fin 128) : k0_pay4 v (ix2 r q) = scaleX (xOf v) r q := by
  have h := pay3_apply v r q
  have e : ∀ E : FVec Ideal S256x128 .f32, (exp2 E : FVec Ideal S256x128 .f32) (ix2 r q) = Ideal.exp2 (E (ix2 r q)) := fun _ => rfl
  unfold k0_pay4
  refine (e (k0_pay3 v)).trans ?_
  rw [h]
  unfold scaleX
  rfl

/-- The codes from the exponents, with the constants' words free. -/
theorem codesT_apply (z lo hi : BitVec 32) (v : Vec Ideal S256x4096 .bf16) (E : FVec Ideal S256x128 .f32) (r : Fin 256) (q : Fin 4096) :
    (shapeCast S256x4096 (truncf .fp8e4m3 (minimumf (broadcast S256x128x32 (FloatOps.ofBits FTy.f32 hi))
        (maximumf (broadcast S256x128x32 (FloatOps.ofBits FTy.f32 lo)) (mulf (k0_pay2 v)
          (broadcastTo S256x128x32 (shapeCast S256x128x1 (exp2 (subf (broadcast S256x128 (FloatOps.ofBits FTy.f32 z)) E))
            shapeCasts_S256x128_S256x128x1) broadcasts_S256x128x1_S256x128x32)))) bitsLt_fp8e4m3_f32)
        shapeCasts_S256x128x32_S256x4096 : FVec Ideal S256x4096 .fp8e4m3) (ix2 r q)
      = min (f32v hi) (max (f32v lo) (v (ix2 r q) * Ideal.exp2 (f32v z - E (ix2 r ⟨q.val / 32, by omega⟩)))) := by
  unfold k0_pay2
  pointwise
  rfl

/-- The codes. -/
theorem pay5_apply (v : Vec Ideal S256x4096 .bf16) (r : Fin 256) (q : Fin 4096) :
    k0_pay5 v (ix2 r q) = codeX (xOf v) r q := by
  have hE := pay3_apply v r ⟨q.val / 32, by omega⟩
  unfold k0_pay5
  refine (codesT_apply _ _ _ v (k0_pay3 v) r q).trans ?_
  rw [hE]
  unfold codeX
  rfl

theorem evenT_apply (C : FVec Ideal S256x4096 .fp8e4m3) (D : FVec Ideal S256x128 .f32) (r : Fin 256) (k : Fin 2048) :
    (shapeCast S256x2048 (extractStridedSlice S256x2048x1 ![0, 0, 0] (shapeCast S256x2048x2 (mulf
        (extf .bf16 (shapeCast S256x128x32 C shapeCasts_S256x4096_S256x128x32) bitsLt_fp8e4m3_bf16 : FVec Ideal S256x128x32 .bf16)
        (broadcastTo S256x128x32 (shapeCast S256x128x1 (truncf .bf16 D bitsLt_bf16_f32) shapeCasts_S256x128_S256x128x1)
          broadcasts_S256x128x1_S256x128x32)) shapeCasts_S256x128x32_S256x2048x2) slices_S256x2048x2_o0_0_0_S256x2048x1)
        shapeCasts_S256x2048x1_S256x2048 : FVec Ideal S256x2048 .bf16) (ix2 r k)
      = C (ix2 r ⟨2 * k.val, by omega⟩) * D (ix2 r ⟨(2 * k.val) / 32, by omega⟩) := by
  pointwise
  have e1 : (⟨k.val / 16 * 32 + k.val % 16 * 2, by omega⟩ : Fin 4096) = ⟨2 * k.val, by omega⟩ := Fin.ext (by show k.val / 16 * 32 + k.val % 16 * 2 = 2 * k.val; omega)
  have e2 : (⟨k.val / 16, by omega⟩ : Fin 128) = ⟨(2 * k.val) / 32, by omega⟩ := Fin.ext (by show k.val / 16 = (2 * k.val) / 32; omega)
  exact congrArg₂ (· * ·) (congrArg (fun i => C (ix2 r i)) e1) (congrArg (fun i => D (ix2 r i)) e2)

/-- The even columns of the quantised activations. -/
theorem pay7_apply (v : Vec Ideal S256x4096 .bf16) (r : Fin 256) (k : Fin 2048) :
    k0_pay7 v (ix2 r k) = quantX (xOf v) r ⟨2 * k.val, by omega⟩ := by
  unfold k0_pay7 k0_pay6
  refine (evenT_apply (k0_pay5 v) (k0_pay4 v) r k).trans ?_
  rw [pay5_apply, pay4_apply]
  unfold quantX
  rfl

theorem oddT_apply (C : FVec Ideal S256x4096 .fp8e4m3) (D : FVec Ideal S256x128 .f32) (r : Fin 256) (k : Fin 2048) :
    (shapeCast S256x2048 (extractStridedSlice S256x2048x1 ![0, 0, 1] (shapeCast S256x2048x2 (mulf
        (extf .bf16 (shapeCast S256x128x32 C shapeCasts_S256x4096_S256x128x32) bitsLt_fp8e4m3_bf16 : FVec Ideal S256x128x32 .bf16)
        (broadcastTo S256x128x32 (shapeCast S256x128x1 (truncf .bf16 D bitsLt_bf16_f32) shapeCasts_S256x128_S256x128x1)
          broadcasts_S256x128x1_S256x128x32)) shapeCasts_S256x128x32_S256x2048x2) slices_S256x2048x2_o0_0_1_S256x2048x1)
        shapeCasts_S256x2048x1_S256x2048 : FVec Ideal S256x2048 .bf16) (ix2 r k)
      = C (ix2 r ⟨2 * k.val + 1, by omega⟩) * D (ix2 r ⟨(2 * k.val + 1) / 32, by omega⟩) := by
  pointwise
  have e1 : (⟨k.val / 16 * 32 + (k.val % 16 * 2 + 1), by omega⟩ : Fin 4096) = ⟨2 * k.val + 1, by omega⟩ := Fin.ext (by show k.val / 16 * 32 + (k.val % 16 * 2 + 1) = 2 * k.val + 1; omega)
  have e2 : (⟨k.val / 16, by omega⟩ : Fin 128) = ⟨(2 * k.val + 1) / 32, by omega⟩ := Fin.ext (by show k.val / 16 = (2 * k.val + 1) / 32; omega)
  exact congrArg₂ (· * ·) (congrArg (fun i => C (ix2 r i)) e1) (congrArg (fun i => D (ix2 r i)) e2)

/-- The odd columns of the quantised activations. -/
theorem pay8_apply (v : Vec Ideal S256x4096 .bf16) (r : Fin 256) (k : Fin 2048) :
    k0_pay8 v (ix2 r k) = quantX (xOf v) r ⟨2 * k.val + 1, by omega⟩ := by
  unfold k0_pay8 k0_pay6
  refine (oddT_apply (k0_pay5 v) (k0_pay4 v) r k).trans ?_
  rw [pay5_apply, pay4_apply]
  unfold quantX
  rfl

theorem shrsi_four (x : BitVec 32) : IntOp.shrsi ArithUnit.vector x 4#32 = x.sshiftRight 4 := by
  unfold IntOp.shrsi
  rw [if_pos (by decide)]
  rfl

/-- The weights of the even columns. -/
theorem pay11_apply (W : Vec Ideal S28672x2048 .i8) (S : Vec Ideal S28672x256 .fp8e4m3)  (n : Fin 28672) (k : Fin 2048) :
    k0_pay11 W S (ix2 n k) = weightE (fun n k => W (ix2 n k)) (fun n k => S (ix2 n k)) n k := by
  unfold k0_pay11 k0_pay9 k0_pay10
  pointwise
  rw [nib_eq]
  rfl

/-- The product, from the halves of the activations and the weights of the even columns. -/
theorem pay1_apply (W : Vec Ideal S28672x2048 .i8) (S : Vec Ideal S28672x256 .fp8e4m3) (a b : FVec Ideal S256x2048 .bf16)
    (c : FVec Ideal S28672x2048 .bf16) (g : Elt Ideal .f32) (r : Fin 256) (n : Fin 28672) :
    k0_pay1 a b (k0_pay10 S) c (k0_pay12 W) (k0_pay13 W) g (ix2 r n)
      = ((∑ k : Fin 2048, a (ix2 r k) * c (ix2 n k))
        + ∑ k : Fin 2048, b (ix2 r k) * weightO (fun n k => W (ix2 n k)) (fun n k => S (ix2 n k)) n k) * g := by
  unfold k0_pay1 k0_pay13 k0_pay12 k0_pay9 k0_pay10
  pointwise
  refine congrArg₂ (· * ·) (congrArg₂ (· + ·) rfl (Finset.sum_congr rfl fun k _ => ?_)) rfl
  rw [nib_eq, shrsi_four]
  unfold weightO
  rfl

end Cert.ReferenceIdeal.Point

end
-- ==== Proof.RefResult.lean ====
module

public import proofs.«01_k».proof.Proof.RefArgs
public import proofs.«01_k».proof.Proof.RefPoint

@[expose] public section

/-! The reference's results, element by element, from its arguments. -/

noncomputable section

namespace Cert.ReferenceIdeal.Result

open Cert.ReferenceIdeal Cert.ReferenceIdeal.Gen Cert.ReferenceIdeal.Point Cert.ReferenceIdeal.Args Cert.Quant
open Idealize.ShloMosaic Idealize.ShloMosaic.TcCoe

variable (m : (ℓ : Loc nD τ sig) → Buf (Elt Ideal) ℓ) (c : Dev nD)

/-- The activations by row and column. -/
def X : Fin 256 → Fin 4096 → EReal := fun r k => xA m c (ix3 0 r k)
/-- The packed weights by row and column. -/
def W : Fin 28672 → Fin 2048 → BitVec 8 := fun n k => wA m c (ix2 n k)
/-- The weights' scales by row and block. -/
def S : Fin 28672 → Fin 256 → EReal := fun n k => sA m c (ix2 n k)

theorem xOf_eq : xOf (iblk m c 1 Value.pt) = X m c := funext fun r => funext fun k => x_apply m c _ r k
theorem w_eq : (fun n k => (iblk m c 2 Value.pt : Vec Ideal S28672x2048 .i8) (ix2 n k)) = W m c := funext fun n => funext fun k => w_apply m c _ n k
theorem s_eq : (fun n k => (iblk m c 3 Value.pt : Vec Ideal S28672x256 .fp8e4m3) (ix2 n k)) = S m c := funext fun n => funext fun k => s_apply m c _ n k

theorem codes_eq (r : Fin 256) (k : Fin 4096) : Value.G5 m c (ix2 r k) = codeX (X m c) r k := by
  rw [← xOf_eq]
  exact pay5_apply _ r k

theorem scale_eq' (r : Fin 256) (q : Fin 128) : Value.G6 m c (ix2 r q) = scaleX (X m c) r q := by
  rw [← xOf_eq]
  exact pay4_apply _ r q

theorem prod_eq (r : Fin 256) (n : Fin 28672) :
    Value.G4 m c (ix2 r n) = prodX (X m c) (W m c) (S m c) (gA m c) r n := by
  rw [← xOf_eq, ← w_eq, ← s_eq, ← g_apply m c Value.pt]
  unfold Value.G4 Value.yAll
  refine (pay1_apply _ _ _ _ _ _ r n).trans ?_
  unfold prodX
  refine congrArg₂ (· * ·) (congrArg₂ (· + ·) (Finset.sum_congr rfl fun k _ => ?_) (Finset.sum_congr rfl fun k _ => ?_)) rfl
  · rw [pay7_apply, pay11_apply]
  · rw [pay8_apply]

end Cert.ReferenceIdeal.Result

end
-- ==== Proof.lean ====
module

public import proofs.«01_k».proof.Defs
public import proofs.«01_k».proof.Proof.LowKFrame
public import proofs.«01_k».proof.Proof.KResult
public import proofs.«01_k».proof.Proof.RefResult
public import Idealize.ShloMosaic.Adequacy
public import Idealize.ShloMosaic.Init

@[expose] public section

noncomputable section

namespace Cert.Proof

open Idealize.ShloMosaic Idealize.SL.Sem Cert.Kernel

/-- Equal activations, weights and scales, and the results are equal. -/
theorem algebraic : Cert.algebraic_KernelIdeal_ReferenceIdeal_pre_x_is_bf16 (hKernelIdeal := Cert.KernelIdeal.Gen.facts)
    (hReferenceIdeal := Cert.ReferenceIdeal.Gen.facts) (hPre_x_is_bf16 := Cert.Pre_x_is_bf16.Gen.facts) := by
  intro m g m' g' hpre hargs
  have hok : ∀ c, Cert.KernelIdeal.Point.Ok (Cert.KernelIdeal.Result.X m c) := fun c =>
    Cert.KernelIdeal.Point.ok_of_small _ fun r k => Cert.KernelIdeal.Point.small_of_pre _ _ _ _ (hpre c) (ix3 0 r k)
  have hX : ∀ c, Cert.ReferenceIdeal.Result.X m' c = Cert.KernelIdeal.Result.X m c := fun c =>
    funext fun r => funext fun k => congrFun (hargs c).1 (ix3 0 r k)
  have hW : ∀ c, Cert.ReferenceIdeal.Result.W m' c = Cert.KernelIdeal.Result.W m c := fun c =>
    funext fun n => funext fun k => congrFun (hargs c).2.1 (ix2 n k)
  have hS : ∀ c, Cert.ReferenceIdeal.Result.S m' c = Cert.KernelIdeal.Result.S m c := fun c =>
    funext fun n => funext fun k => congrFun (hargs c).2.2.1 (ix2 n k)
  have hg : ∀ c, Cert.ReferenceIdeal.Args.gA m' c = Cert.KernelIdeal.Args.gA m c := fun c =>
    congrFun (hargs c).2.2.2 (fun a => a.elim0)
  have e4 : ∀ c, Cert.ReferenceIdeal.Value.G4 m' c = Cert.KernelIdeal.Value.G4 m c := fun c => funext fun i => by
    obtain ⟨r, n, rfl⟩ : ∃ (r : Fin 256) (n : Fin 28672), i = ix2 r n := ⟨_, _, eq_ix2 i⟩
    rw [Cert.ReferenceIdeal.Result.prod_eq, Cert.KernelIdeal.Result.prod_eq m c (hok c), hX, hW, hS, hg]
  have e5 : ∀ c, Cert.ReferenceIdeal.Value.G5 m' c = Cert.KernelIdeal.Value.G5 m c := fun c => funext fun i => by
    obtain ⟨r, n, rfl⟩ : ∃ (r : Fin 256) (n : Fin 4096), i = ix2 r n := ⟨_, _, eq_ix2 i⟩
    rw [Cert.ReferenceIdeal.Result.codes_eq, Cert.KernelIdeal.Result.codes_eq m c (hok c), hX]
  have e6 : ∀ c, Cert.ReferenceIdeal.Value.G6 m' c = Cert.KernelIdeal.Value.G6 m c := fun c => funext fun i => by
    obtain ⟨r, n, rfl⟩ : ∃ (r : Fin 256) (n : Fin 128), i = ix2 r n := ⟨_, _, eq_ix2 i⟩
    rw [Cert.ReferenceIdeal.Result.scale_eq', Cert.KernelIdeal.Result.scale_eq' m c (hok c), hX]
  refine ⟨Cert.KernelIdeal.Value.G4 m, Cert.KernelIdeal.Value.G5 m, Cert.KernelIdeal.Value.G6 m, Cert.KernelIdeal.Value.run m g, ?_⟩
  refine (θ_run _ _ _).mono (fun r h c => ?_) (Cert.ReferenceIdeal.Value.run m' g')
  obtain ⟨h4, h5, h6, h⟩ := h c
  exact ⟨h4.trans (e4 c), h5.trans (e5 c), h6.trans (e6 c), h⟩

theorem claim : Cert.Claim := ⟨Cert.Kernel.Gen.facts, Cert.KernelIdeal.Gen.facts, Cert.ReferenceIdeal.Gen.facts,
  Cert.Pre_x_is_bf16.Gen.facts, fun m ρ _ => Cert.Kernel.Gen.frame m ρ, fun m ρ _ => Cert.KernelIdeal.Gen.frame m ρ,
  fun m ρ _ => Cert.KernelIdeal.Gen.frame m ρ, fun m ρ _ => Cert.ReferenceIdeal.Gen.frame m ρ,
  fun m ρ _ => Cert.ReferenceIdeal.Gen.frame m ρ, trivial, algebraic⟩

end Cert.Proof

end
